-- ==== Defs.lean ====
def Pre_KernelIdeal [hPre_groups_valid : Cert.Pre_groups_valid.Facts] (m : (ℓ : Loc Cert.KernelIdeal.nD Cert.KernelIdeal.τ Cert.KernelIdeal.sig) → Buf (Elt Ideal) ℓ) : Prop :=
  ∀ c : Dev Cert.KernelIdeal.nD,
    (Cert.Pre_groups_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_valid [hPre_groups_valid : Cert.Pre_groups_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] [hPre_groups_valid : Cert.Pre_groups_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_valid [hReferenceIdeal : Cert.ReferenceIdeal.Facts] [hPre_groups_valid : Cert.Pre_groups_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_groups_valid : Cert.Pre_groups_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_groups_valid : Cert.Pre_groups_valid.Facts),
    quiescent_KernelIdeal (hKernelIdeal := hKernelIdeal) (hPre_groups_valid := hPre_groups_valid)
    ∧ quiescent_ReferenceIdeal (hReferenceIdeal := hReferenceIdeal)
    ∧ quiescent_ReferenceIdeal_pre_groups_valid (hReferenceIdeal := hReferenceIdeal) (hPre_groups_valid := hPre_groups_valid)
    ∧ algebraic_KernelIdeal_ReferenceIdeal (hKernelIdeal := hKernelIdeal) (hReferenceIdeal := hReferenceIdeal) (hPre_groups_valid := hPre_groups_valid)
-- ==== Pre_groups_valid.lean ====
abbrev S256x11264 : Shape := ⟨2, ![256, 11264]⟩
abbrev S32x11264 : Shape := ⟨2, ![32, 11264]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S256x11264 32) (main_arg1 : FVec F S32x11264 .bf16) (main_arg2 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg2 main_v0
  let main_c_0 : IVec S_ 32 := constantI S_ 32 32#32
  let main_v2 : IVec S2048 32 := broadcastInDim S2048 ![] bcast_S_S2048 main_c_0
  let main_v3 : IVec S2048 1 := cmpi .slt main_arg2 main_v2
  let main_v4 : IVec S2048 1 := andi main_v1 main_v3
  main_v4
-- ==== KernelIdeal.lean ====
abbrev S256x11264 : Shape := ⟨2, ![256, 11264]⟩
abbrev S32x11264 : Shape := ⟨2, ![32, 11264]⟩
abbrev S2048 : Shape := ⟨1, ![2048]⟩
abbrev S16x128 : Shape := ⟨2, ![16, 128]⟩
abbrev S16x44x32x1x128 : Shape := ⟨5, ![16, 44, 32, 1, 128]⟩
abbrev S44x32x256 : Shape := ⟨3, ![44, 32, 256]⟩
abbrev S45056x128 : Shape := ⟨2, ![45056, 128]⟩
abbrev S16x44x33x1x128 : Shape := ⟨5, ![16, 44, 33, 1, 128]⟩
abbrev S16 : Shape := ⟨1, ![16]⟩
abbrev S_ : Shape := ⟨0, ![]⟩
abbrev S1 : Shape := ⟨1, ![1]⟩
abbrev S16x11264 : Shape := ⟨2, ![16, 11264]⟩
abbrev S32x16x128 : Shape := ⟨3, ![32, 16, 128]⟩
abbrev S1x16x128 : Shape := ⟨3, ![1, 16, 128]⟩
abbrev S512x128 : Shape := ⟨2, ![512, 128]⟩
abbrev S128x256 : Shape := ⟨2, ![128, 256]⟩
abbrev S512x256 : Shape := ⟨2, ![512, 256]⟩
abbrev S512x512 : Shape := ⟨2, ![512, 512]⟩
abbrev S32x128 : Shape := ⟨2, ![32, 128]⟩
abbrev S128x128 : Shape := ⟨2, ![128, 128]⟩
abbrev S1x128 : Shape := ⟨2, ![1, 128]⟩
abbrev S8x128 : Shape := ⟨2, ![8, 128]⟩
abbrev S1x1 : Shape := ⟨2, ![1, 1]⟩
abbrev S23232x128 : Shape := ⟨2, ![23232, 128]⟩
abbrev S6x128 : Shape := ⟨2, ![6, 128]⟩
abbrev S1x44x32x1x128 : Shape := ⟨5, ![1, 44, 32, 1, 128]⟩
abbrev S44x32x1x128 : Shape := ⟨4, ![44, 32, 1, 128]⟩
abbrev S1x32x256 : Shape := ⟨3, ![1, 32, 256]⟩
abbrev S32x256 : Shape := ⟨2, ![32, 256]⟩
abbrev S16x44x32x1x128x4 : Shape := ⟨6, ![16, 44, 32, 1, 128, 4]⟩
abbrev S16x44x4096x4 : Shape := ⟨4, ![16, 44, 4096, 4]⟩

abbrev nBuf : Space → Nat
  | .hbm => 10
  | .vmem => 7
  | .smem => 1
  | _ => 0

abbrev bufTy : (tb : Table) → Fin (tcTables nBuf tb) → BufTy
  | .hbm, ⟨0, _⟩ => ⟨S256x11264, .i32⟩
  | .hbm, ⟨1, _⟩ => ⟨S32x11264, .bf16⟩
  | .hbm, ⟨2, _⟩ => ⟨S2048, .i32⟩
  | .hbm, ⟨3, _⟩ => ⟨S16x128, .i32⟩
  | .hbm, ⟨4, _⟩ => ⟨S16x44x32x1x128, .i32⟩
  | .hbm, ⟨5, _⟩ => ⟨S44x32x256, .bf16⟩
  | .hbm, ⟨6, _⟩ => ⟨S16x128, .i32⟩
  | .hbm, ⟨7, _⟩ => ⟨S16x44x32x1x128x4, .i8⟩
  | .hbm, ⟨8, _⟩ => ⟨S16x44x4096x4, .i8⟩
  | .hbm, ⟨9, _⟩ => ⟨S2048, .i32⟩
  | .local _ .vmem, ⟨0, _⟩ => ⟨S256x11264, .i32⟩
  | .local _ .vmem, ⟨1, _⟩ => ⟨S45056x128, .i32⟩
  | .local _ .vmem, ⟨2, _⟩ => ⟨S16x44x33x1x128, .i32⟩
  | .local _ .vmem, ⟨3, _⟩ => ⟨S32x11264, .bf16⟩
  | .local _ .vmem, ⟨4, _⟩ => ⟨S16x128, .i32⟩
  | .local _ .vmem, ⟨5, _⟩ => ⟨S16x128, .i32⟩
  | .local _ .vmem, ⟨6, _⟩ => ⟨S16x128, .i32⟩
  | .local _ .smem, ⟨0, _⟩ => ⟨S16x128, .i32⟩
  | _, _ => ⟨S256x11264, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_179 : BitVec 32 := 0#32
  let c16_i32_180 : BitVec 32 := 16#32
  let v497 : BitVec 32 := Scalar.addi c0_i32_179 c16_i32_180
  let c1_i32_181 : BitVec 32 := 1#32
  ⟨c0_i32_179, v497, c1_i32_181⟩
def k0_off1 (k0_t1 : Fin k0_t1_loop.trips) : Fin 1 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  ![v765.toNat]
def k0_off2 (k0_t1 : Fin k0_t1_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_566 : BitVec 32 := 2#32
  let v766 : BitVec 32 := Scalar.muli v765 c2_i32_566
  let c8_i32_567 : BitVec 32 := 8#32
  let v767 : BitVec 32 := Scalar.muli v766 c8_i32_567
  let c0_i32_568 : BitVec 32 := 0#32
  ![v767.toNat, 0]
@[reducible] def k0_t2_loop : Scf.Loop 32 :=
  let c0_i32_570 : BitVec 32 := 0#32
  let c2_i32_571 : BitVec 32 := 2#32
  let v772 : BitVec 32 := Scalar.addi c0_i32_570 c2_i32_571
  let c1_i32_572 : BitVec 32 := 1#32
  ⟨c0_i32_570, v772, c1_i32_572⟩
def k0_mult1 (k0_t1 : Fin k0_t1_loop.trips) (k0_t2 : Fin k0_t2_loop.trips) : BitVec 32 :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  v777
def k0_off3 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v779 : Index := Scalar.indexCast v778
  let c0_578 : Index := 0#32
  ![v779.toNat, 0]
def k0_off4 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v781 : Index := Scalar.indexCast v778
  let c128 : Index := 128#32
  ![v781.toNat, 128]
def k0_off5 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v783 : Index := Scalar.indexCast v778
  let c256 : Index := 256#32
  ![v783.toNat, 256]
def k0_off6 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v785 : Index := Scalar.indexCast v778
  let c384 : Index := 384#32
  ![v785.toNat, 384]
def k0_off7 (k0_t1 : Fin k0_t1_loop.trips) (k0_t2 : Fin k0_t2_loop.trips) (c0_i32_600 : BitVec 32) (c0_i32_602 : BitVec 32) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_599 : BitVec 32 := 8#32
  let v837 : BitVec 32 := Scalar.muli v776 c8_i32_599
  let v838 : BitVec 32 := Scalar.addi c0_i32_600 v837
  let c22_i32_601 : BitVec 32 := 22#32
  let v839 : BitVec 32 := Scalar.muli v838 c22_i32_601
  let v840 : BitVec 32 := Scalar.addi v839 c0_i32_602
  let v841 : Index := Scalar.indexCast v840
  let c0_603 : Index := 0#32
  ![v841.toNat, 0]
def k0_off8 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v907 : Index := Scalar.indexCast v778
  let c512 : Index := 512#32
  ![v907.toNat, 512]
def k0_off9 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v909 : Index := Scalar.indexCast v778
  let c640 : Index := 640#32
  ![v909.toNat, 640]
def k0_off10 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v911 : Index := Scalar.indexCast v778
  let c768 : Index := 768#32
  ![v911.toNat, 768]
def k0_off11 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v913 : Index := Scalar.indexCast v778
  let c896 : Index := 896#32
  ![v913.toNat, 896]
def k0_off12 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1035 : Index := Scalar.indexCast v778
  let c1024 : Index := 1024#32
  ![v1035.toNat, 1024]
def k0_off13 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1037 : Index := Scalar.indexCast v778
  let c1152 : Index := 1152#32
  ![v1037.toNat, 1152]
def k0_off14 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1039 : Index := Scalar.indexCast v778
  let c1280 : Index := 1280#32
  ![v1039.toNat, 1280]
def k0_off15 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1041 : Index := Scalar.indexCast v778
  let c1408 : Index := 1408#32
  ![v1041.toNat, 1408]
def k0_off16 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1163 : Index := Scalar.indexCast v778
  let c1536 : Index := 1536#32
  ![v1163.toNat, 1536]
def k0_off17 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1165 : Index := Scalar.indexCast v778
  let c1664 : Index := 1664#32
  ![v1165.toNat, 1664]
def k0_off18 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1167 : Index := Scalar.indexCast v778
  let c1792 : Index := 1792#32
  ![v1167.toNat, 1792]
def k0_off19 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1169 : Index := Scalar.indexCast v778
  let c1920 : Index := 1920#32
  ![v1169.toNat, 1920]
def k0_off20 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1291 : Index := Scalar.indexCast v778
  let c2048 : Index := 2048#32
  ![v1291.toNat, 2048]
def k0_off21 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1293 : Index := Scalar.indexCast v778
  let c2176 : Index := 2176#32
  ![v1293.toNat, 2176]
def k0_off22 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1295 : Index := Scalar.indexCast v778
  let c2304 : Index := 2304#32
  ![v1295.toNat, 2304]
def k0_off23 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1297 : Index := Scalar.indexCast v778
  let c2432 : Index := 2432#32
  ![v1297.toNat, 2432]
def k0_off24 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1419 : Index := Scalar.indexCast v778
  let c2560 : Index := 2560#32
  ![v1419.toNat, 2560]
def k0_off25 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1421 : Index := Scalar.indexCast v778
  let c2688 : Index := 2688#32
  ![v1421.toNat, 2688]
def k0_off26 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1423 : Index := Scalar.indexCast v778
  let c2816 : Index := 2816#32
  ![v1423.toNat, 2816]
def k0_off27 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1425 : Index := Scalar.indexCast v778
  let c2944 : Index := 2944#32
  ![v1425.toNat, 2944]
def k0_off28 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1547 : Index := Scalar.indexCast v778
  let c3072 : Index := 3072#32
  ![v1547.toNat, 3072]
def k0_off29 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1549 : Index := Scalar.indexCast v778
  let c3200 : Index := 3200#32
  ![v1549.toNat, 3200]
def k0_off30 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1551 : Index := Scalar.indexCast v778
  let c3328 : Index := 3328#32
  ![v1551.toNat, 3328]
def k0_off31 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1553 : Index := Scalar.indexCast v778
  let c3456 : Index := 3456#32
  ![v1553.toNat, 3456]
def k0_off32 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1675 : Index := Scalar.indexCast v778
  let c3584 : Index := 3584#32
  ![v1675.toNat, 3584]
def k0_off33 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1677 : Index := Scalar.indexCast v778
  let c3712 : Index := 3712#32
  ![v1677.toNat, 3712]
def k0_off34 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1679 : Index := Scalar.indexCast v778
  let c3840 : Index := 3840#32
  ![v1679.toNat, 3840]
def k0_off35 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1681 : Index := Scalar.indexCast v778
  let c3968 : Index := 3968#32
  ![v1681.toNat, 3968]
def k0_off36 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1803 : Index := Scalar.indexCast v778
  let c4096 : Index := 4096#32
  ![v1803.toNat, 4096]
def k0_off37 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1805 : Index := Scalar.indexCast v778
  let c4224 : Index := 4224#32
  ![v1805.toNat, 4224]
def k0_off38 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1807 : Index := Scalar.indexCast v778
  let c4352 : Index := 4352#32
  ![v1807.toNat, 4352]
def k0_off39 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1809 : Index := Scalar.indexCast v778
  let c4480 : Index := 4480#32
  ![v1809.toNat, 4480]
def k0_off40 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1931 : Index := Scalar.indexCast v778
  let c4608 : Index := 4608#32
  ![v1931.toNat, 4608]
def k0_off41 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1933 : Index := Scalar.indexCast v778
  let c4736 : Index := 4736#32
  ![v1933.toNat, 4736]
def k0_off42 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1935 : Index := Scalar.indexCast v778
  let c4864 : Index := 4864#32
  ![v1935.toNat, 4864]
def k0_off43 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v1937 : Index := Scalar.indexCast v778
  let c4992 : Index := 4992#32
  ![v1937.toNat, 4992]
def k0_off44 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2059 : Index := Scalar.indexCast v778
  let c5120 : Index := 5120#32
  ![v2059.toNat, 5120]
def k0_off45 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2061 : Index := Scalar.indexCast v778
  let c5248 : Index := 5248#32
  ![v2061.toNat, 5248]
def k0_off46 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2063 : Index := Scalar.indexCast v778
  let c5376 : Index := 5376#32
  ![v2063.toNat, 5376]
def k0_off47 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2065 : Index := Scalar.indexCast v778
  let c5504 : Index := 5504#32
  ![v2065.toNat, 5504]
def k0_off48 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2187 : Index := Scalar.indexCast v778
  let c5632 : Index := 5632#32
  ![v2187.toNat, 5632]
def k0_off49 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2189 : Index := Scalar.indexCast v778
  let c5760 : Index := 5760#32
  ![v2189.toNat, 5760]
def k0_off50 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2191 : Index := Scalar.indexCast v778
  let c5888 : Index := 5888#32
  ![v2191.toNat, 5888]
def k0_off51 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2193 : Index := Scalar.indexCast v778
  let c6016 : Index := 6016#32
  ![v2193.toNat, 6016]
def k0_off52 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2315 : Index := Scalar.indexCast v778
  let c6144 : Index := 6144#32
  ![v2315.toNat, 6144]
def k0_off53 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2317 : Index := Scalar.indexCast v778
  let c6272 : Index := 6272#32
  ![v2317.toNat, 6272]
def k0_off54 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2319 : Index := Scalar.indexCast v778
  let c6400 : Index := 6400#32
  ![v2319.toNat, 6400]
def k0_off55 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2321 : Index := Scalar.indexCast v778
  let c6528 : Index := 6528#32
  ![v2321.toNat, 6528]
def k0_off56 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2443 : Index := Scalar.indexCast v778
  let c6656 : Index := 6656#32
  ![v2443.toNat, 6656]
def k0_off57 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2445 : Index := Scalar.indexCast v778
  let c6784 : Index := 6784#32
  ![v2445.toNat, 6784]
def k0_off58 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2447 : Index := Scalar.indexCast v778
  let c6912 : Index := 6912#32
  ![v2447.toNat, 6912]
def k0_off59 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2449 : Index := Scalar.indexCast v778
  let c7040 : Index := 7040#32
  ![v2449.toNat, 7040]
def k0_off60 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2571 : Index := Scalar.indexCast v778
  let c7168 : Index := 7168#32
  ![v2571.toNat, 7168]
def k0_off61 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2573 : Index := Scalar.indexCast v778
  let c7296 : Index := 7296#32
  ![v2573.toNat, 7296]
def k0_off62 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2575 : Index := Scalar.indexCast v778
  let c7424 : Index := 7424#32
  ![v2575.toNat, 7424]
def k0_off63 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2577 : Index := Scalar.indexCast v778
  let c7552 : Index := 7552#32
  ![v2577.toNat, 7552]
def k0_off64 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2699 : Index := Scalar.indexCast v778
  let c7680 : Index := 7680#32
  ![v2699.toNat, 7680]
def k0_off65 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2701 : Index := Scalar.indexCast v778
  let c7808 : Index := 7808#32
  ![v2701.toNat, 7808]
def k0_off66 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2703 : Index := Scalar.indexCast v778
  let c7936 : Index := 7936#32
  ![v2703.toNat, 7936]
def k0_off67 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2705 : Index := Scalar.indexCast v778
  let c8064 : Index := 8064#32
  ![v2705.toNat, 8064]
def k0_off68 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2827 : Index := Scalar.indexCast v778
  let c8192 : Index := 8192#32
  ![v2827.toNat, 8192]
def k0_off69 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2829 : Index := Scalar.indexCast v778
  let c8320 : Index := 8320#32
  ![v2829.toNat, 8320]
def k0_off70 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2831 : Index := Scalar.indexCast v778
  let c8448 : Index := 8448#32
  ![v2831.toNat, 8448]
def k0_off71 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2833 : Index := Scalar.indexCast v778
  let c8576 : Index := 8576#32
  ![v2833.toNat, 8576]
def k0_off72 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2955 : Index := Scalar.indexCast v778
  let c8704 : Index := 8704#32
  ![v2955.toNat, 8704]
def k0_off73 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2957 : Index := Scalar.indexCast v778
  let c8832 : Index := 8832#32
  ![v2957.toNat, 8832]
def k0_off74 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2959 : Index := Scalar.indexCast v778
  let c8960 : Index := 8960#32
  ![v2959.toNat, 8960]
def k0_off75 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v2961 : Index := Scalar.indexCast v778
  let c9088 : Index := 9088#32
  ![v2961.toNat, 9088]
def k0_off76 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3083 : Index := Scalar.indexCast v778
  let c9216 : Index := 9216#32
  ![v3083.toNat, 9216]
def k0_off77 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3085 : Index := Scalar.indexCast v778
  let c9344 : Index := 9344#32
  ![v3085.toNat, 9344]
def k0_off78 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3087 : Index := Scalar.indexCast v778
  let c9472 : Index := 9472#32
  ![v3087.toNat, 9472]
def k0_off79 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3089 : Index := Scalar.indexCast v778
  let c9600 : Index := 9600#32
  ![v3089.toNat, 9600]
def k0_off80 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3211 : Index := Scalar.indexCast v778
  let c9728 : Index := 9728#32
  ![v3211.toNat, 9728]
def k0_off81 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3213 : Index := Scalar.indexCast v778
  let c9856 : Index := 9856#32
  ![v3213.toNat, 9856]
def k0_off82 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3215 : Index := Scalar.indexCast v778
  let c9984 : Index := 9984#32
  ![v3215.toNat, 9984]
def k0_off83 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3217 : Index := Scalar.indexCast v778
  let c10112 : Index := 10112#32
  ![v3217.toNat, 10112]
def k0_off84 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3339 : Index := Scalar.indexCast v778
  let c10240 : Index := 10240#32
  ![v3339.toNat, 10240]
def k0_off85 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3341 : Index := Scalar.indexCast v778
  let c10368 : Index := 10368#32
  ![v3341.toNat, 10368]
def k0_off86 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3343 : Index := Scalar.indexCast v778
  let c10496 : Index := 10496#32
  ![v3343.toNat, 10496]
def k0_off87 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3345 : Index := Scalar.indexCast v778
  let c10624 : Index := 10624#32
  ![v3345.toNat, 10624]
def k0_off88 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3467 : Index := Scalar.indexCast v778
  let c10752 : Index := 10752#32
  ![v3467.toNat, 10752]
def k0_off89 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3469 : Index := Scalar.indexCast v778
  let c10880 : Index := 10880#32
  ![v3469.toNat, 10880]
def k0_off90 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3471 : Index := Scalar.indexCast v778
  let c11008 : Index := 11008#32
  ![v3471.toNat, 11008]
def k0_off91 (k0_t1 : Fin k0_t1_loop.trips) (k0_t2 : Fin k0_t2_loop.trips) : Fin 2 → Nat :=
  let c0_i32_565 : BitVec 32 := 0#32
  let c0_i32_179 : BitVec 32 := 0#32
  let c1_i32_181 : BitVec 32 := 1#32
  let arg19 : BitVec 32 := Scf.iv c0_i32_179 c1_i32_181 k0_t1
  let c1_i32_564 : BitVec 32 := 1#32
  let v764 : BitVec 32 := Scalar.muli arg19 c1_i32_564
  let v765 : BitVec 32 := Scalar.addi c0_i32_565 v764
  let c2_i32_576 : BitVec 32 := 2#32
  let v775 : BitVec 32 := Scalar.muli v765 c2_i32_576
  let c0_i32_575 : BitVec 32 := 0#32
  let c0_i32_570 : BitVec 32 := 0#32
  let c1_i32_572 : BitVec 32 := 1#32
  let arg20 : BitVec 32 := Scf.iv c0_i32_570 c1_i32_572 k0_t2
  let c1_i32_574 : BitVec 32 := 1#32
  let v773 : BitVec 32 := Scalar.muli arg20 c1_i32_574
  let v774 : BitVec 32 := Scalar.addi c0_i32_575 v773
  let v776 : BitVec 32 := Scalar.addi v775 v774
  let c8_i32_577 : BitVec 32 := 8#32
  let v777 : BitVec 32 := Scalar.muli v776 c8_i32_577
  let v778 : BitVec 32 := v777
  let v3473 : Index := Scalar.indexCast v778
  let c11136 : Index := 11136#32
  ![v3473.toNat, 11136]
@[reducible] def k0_t3_loop : Scf.Loop 32 :=
  let c0_i32_183 : BitVec 32 := 0#32
  let c16_i32_184 : BitVec 32 := 16#32
  let v498 : BitVec 32 := Scalar.addi c0_i32_183 c16_i32_184
  let c1_i32_185 : BitVec 32 := 1#32
  ⟨c0_i32_183, v498, c1_i32_185⟩
@[reducible] def k0_t4_loop : Scf.Loop 32 :=
  let c0_i32_566 : BitVec 32 := 0#32
  let c16_i32_567 : BitVec 32 := 16#32
  let v766 : BitVec 32 := Scalar.addi c0_i32_566 c16_i32_567
  let c1_i32_568 : BitVec 32 := 1#32
  ⟨c0_i32_566, v766, c1_i32_568⟩
def k0_off92 (k0_t3 : Fin k0_t3_loop.trips) (k0_t4 : Fin k0_t4_loop.trips) (c0_i32_581 : BitVec 32) : Fin 2 → Nat :=
  let c0_i32_565 : BitVec 32 := 0#32
  let c0_i32_183 : BitVec 32 := 0#32
  let c1_i32_185 : BitVec 32 := 1#32
  let arg19 : BitVec 32 := Scf.iv c0_i32_183 c1_i32_185 k0_t3
  let c1_i32_564 : BitVec 32 := 1#32
  let v764 : BitVec 32 := Scalar.muli arg19 c1_i32_564
  let v765 : BitVec 32 := Scalar.addi c0_i32_565 v764
  let v775 : Index := Scalar.indexCast v765
  let c8_i32_580 : BitVec 32 := 8#32
  let c0_i32_579 : BitVec 32 := 0#32
  let c0_i32_566 : BitVec 32 := 0#32
  let c1_i32_568 : BitVec 32 := 1#32
  let arg20 : BitVec 32 := Scf.iv c0_i32_566 c1_i32_568 k0_t4
  let c1_i32_578 : BitVec 32 := 1#32
  let v771 : BitVec 32 := Scalar.muli arg20 c1_i32_578
  let v772 : BitVec 32 := Scalar.addi c0_i32_579 v771
  let v773 : BitVec 32 := Scalar.muli c8_i32_580 v772
  let v774 : BitVec 32 := Scalar.addi v773 c0_i32_581
  let v776 : Index := Scalar.indexCast v774
  ![v775.toNat, v776.toNat]
def k0_off93 (v777 : BitVec 32) : Fin 2 → Nat :=
  let c0_i32_596 : BitVec 32 := 0#32
  let v813 : BitVec 32 := Scalar.addi v777 c0_i32_596
  let v814 : Index := Scalar.indexCast v813
  let c0_597 : Index := 0#32
  ![v814.toNat, 0]

def k0_off94 (v782 : BitVec 32) : Fin 2 → Nat :=
  let c0_i32_598 : BitVec 32 := 0#32
  let v816 : BitVec 32 := Scalar.addi v782 c0_i32_598
  let v817 : Index := Scalar.indexCast v816
  let c0_599 : Index := 0#32
  ![v817.toNat, 0]

def k0_off95 (v787 : BitVec 32) : Fin 2 → Nat :=
  let c0_i32_602 : BitVec 32 := 0#32
  let v826 : BitVec 32 := Scalar.addi v787 c0_i32_602
  let v827 : Index := Scalar.indexCast v826
  let c0_603 : Index := 0#32
  ![v827.toNat, 0]

def k0_off96 (v792 : BitVec 32) : Fin 2 → Nat :=
  let c0_i32_604 : BitVec 32 := 0#32
  let v829 : BitVec 32 := Scalar.addi v792 c0_i32_604
  let v830 : Index := Scalar.indexCast v829
  let c0_605 : Index := 0#32
  ![v830.toNat, 0]

def k0_off97 (v797 : BitVec 32) : Fin 2 → Nat :=
  let c0_i32_609 : BitVec 32 := 0#32
  let v839 : BitVec 32 := Scalar.addi v797 c0_i32_609
  let v840 : Index := Scalar.indexCast v839
  let c0_610 : Index := 0#32
  ![v840.toNat, 0]

def k0_off98 (v802 : BitVec 32) : Fin 2 → Nat :=
  let c0_i32_611 : BitVec 32 := 0#32
  let v842 : BitVec 32 := Scalar.addi v802 c0_i32_611
  let v843 : Index := Scalar.indexCast v842
  let c0_612 : Index := 0#32
  ![v843.toNat, 0]

def k0_off99 (v807 : BitVec 32) : Fin 2 → Nat :=
  let c0_i32_616 : BitVec 32 := 0#32
  let v852 : BitVec 32 := Scalar.addi v807 c0_i32_616
  let v853 : Index := Scalar.indexCast v852
  let c0_617 : Index := 0#32
  ![v853.toNat, 0]

def k0_off100 (v812 : BitVec 32) (c0_i32_618 : BitVec 32) : Fin 2 → Nat :=
  let v855 : BitVec 32 := Scalar.addi v812 c0_i32_618
  let v856 : Index := Scalar.indexCast v855
  let c0_619 : Index := 0#32
  ![v856.toNat, 0]

def k0_off101 (k0_t3 : Fin k0_t3_loop.trips) (k0_t4 : Fin k0_t4_loop.trips) (c0_i32_642 : BitVec 32) (c0_i32_645 : BitVec 32) : Fin 2 → Nat :=
  let c0_i32_565 : BitVec 32 := 0#32
  let c0_i32_183 : BitVec 32 := 0#32
  let c1_i32_185 : BitVec 32 := 1#32
  let arg19 : BitVec 32 := Scf.iv c0_i32_183 c1_i32_185 k0_t3
  let c1_i32_564 : BitVec 32 := 1#32
  let v764 : BitVec 32 := Scalar.muli arg19 c1_i32_564
  let v765 : BitVec 32 := Scalar.addi c0_i32_565 v764
  let c44_i32 : BitVec 32 := 44#32
  let v913 : BitVec 32 := Scalar.muli v765 c44_i32
  let v914 : BitVec 32 := Scalar.addi v913 c0_i32_642
  let c33_i32_643 : BitVec 32 := 33#32
  let v915 : BitVec 32 := Scalar.muli v914 c33_i32_643
  let c0_i32_579 : BitVec 32 := 0#32
  let c0_i32_566 : BitVec 32 := 0#32
  let c1_i32_568 : BitVec 32 := 1#32
  let arg20 : BitVec 32 := Scf.iv c0_i32_566 c1_i32_568 k0_t4
  let c1_i32_578 : BitVec 32 := 1#32
  let v771 : BitVec 32 := Scalar.muli arg20 c1_i32_578
  let v772 : BitVec 32 := Scalar.addi c0_i32_579 v771
  let c2_i32_644 : BitVec 32 := 2#32
  let v916 : BitVec 32 := Scalar.muli v772 c2_i32_644
  let v917 : BitVec 32 := Scalar.addi v915 v916
  let v918 : BitVec 32 := Scalar.addi v917 c0_i32_645
  let v920 : Index := Scalar.indexCast v918
  let c0_646 : Index := 0#32
  ![v920.toNat, 0]
def k0_off101_at (r : Fin 8) : BitVec 32 × BitVec 32 :=
  if r.val < 4 then
    if r.val < 2 then
      if r.val < 1 then
        (0#32, 0#32)
      else
        (0#32, 1#32)
    else
      if r.val < 3 then
        (1#32, 0#32)
      else
        (1#32, 1#32)
  else
    if r.val < 6 then
      if r.val < 5 then
        (16#32, 0#32)
      else
        (16#32, 1#32)
    else
      if r.val < 7 then
        (17#32, 0#32)
      else
        (17#32, 1#32)
def k0_off102 (v777 : BitVec 32) : Fin 2 → Nat :=
  let c8_i32_665 : BitVec 32 := 8#32
  let v957 : BitVec 32 := Scalar.addi v777 c8_i32_665
  let v958 : Index := Scalar.indexCast v957
  let c0_666 : Index := 0#32
  ![v958.toNat, 0]
def k0_off103 (v782 : BitVec 32) : Fin 2 → Nat :=
  let c8_i32_667 : BitVec 32 := 8#32
  let v960 : BitVec 32 := Scalar.addi v782 c8_i32_667
  let v961 : Index := Scalar.indexCast v960
  let c0_668 : Index := 0#32
  ![v961.toNat, 0]
def k0_off104 (v787 : BitVec 32) : Fin 2 → Nat :=
  let c8_i32_672 : BitVec 32 := 8#32
  let v970 : BitVec 32 := Scalar.addi v787 c8_i32_672
  let v971 : Index := Scalar.indexCast v970
  let c0_673 : Index := 0#32
  ![v971.toNat, 0]
def k0_off105 (v792 : BitVec 32) : Fin 2 → Nat :=
  let c8_i32_674 : BitVec 32 := 8#32
  let v973 : BitVec 32 := Scalar.addi v792 c8_i32_674
  let v974 : Index := Scalar.indexCast v973
  let c0_675 : Index := 0#32
  ![v974.toNat, 0]
def k0_off106 (v797 : BitVec 32) : Fin 2 → Nat :=
  let c8_i32_679 : BitVec 32 := 8#32
  let v983 : BitVec 32 := Scalar.addi v797 c8_i32_679
  let v984 : Index := Scalar.indexCast v983
  let c0_680 : Index := 0#32
  ![v984.toNat, 0]
def k0_off107 (v802 : BitVec 32) : Fin 2 → Nat :=
  let c8_i32_681 : BitVec 32 := 8#32
  let v986 : BitVec 32 := Scalar.addi v802 c8_i32_681
  let v987 : Index := Scalar.indexCast v986
  let c0_682 : Index := 0#32
  ![v987.toNat, 0]
def k0_off108 (v807 : BitVec 32) : Fin 2 → Nat :=
  let c8_i32_686 : BitVec 32 := 8#32
  let v996 : BitVec 32 := Scalar.addi v807 c8_i32_686
  let v997 : Index := Scalar.indexCast v996
  let c0_687 : Index := 0#32
  ![v997.toNat, 0]
def k0_off109 (v777 : BitVec 32) : Fin 2 → Nat :=
  let c16_i32_737 : BitVec 32 := 16#32
  let v1101 : BitVec 32 := Scalar.addi v777 c16_i32_737
  let v1102 : Index := Scalar.indexCast v1101
  let c0_738 : Index := 0#32
  ![v1102.toNat, 0]

def k0_chk1 (v777 : BitVec 32) : Prop :=
  (∀ a, (k0_off93 v777) a + S8x128.size a ≤ S45056x128.size a) ∧
  (∀ a, (k0_off102 v777) a + S8x128.size a ≤ S45056x128.size a) ∧
  (∀ a, (k0_off109 v777) a + S6x128.size a ≤ S45056x128.size a)
theorem k0_off93_inb : ∀ (v777 : BitVec 32) (k0_hw1 : k0_chk1 v777), ∀ a, (k0_off93 v777) a + S8x128.size a ≤ S45056x128.size a := fun v777 k0_hw1 => k0_hw1.1
theorem k0_off102_inb : ∀ (v777 : BitVec 32) (k0_hw1 : k0_chk1 v777), ∀ a, (k0_off102 v777) a + S8x128.size a ≤ S45056x128.size a := fun v777 k0_hw1 => k0_hw1.2.1
theorem k0_off109_inb : ∀ (v777 : BitVec 32) (k0_hw1 : k0_chk1 v777), ∀ a, (k0_off109 v777) a + S6x128.size a ≤ S45056x128.size a := fun v777 k0_hw1 => k0_hw1.2.2

def k0_off110 (v782 : BitVec 32) : Fin 2 → Nat :=
  let c16_i32_739 : BitVec 32 := 16#32
  let v1104 : BitVec 32 := Scalar.addi v782 c16_i32_739
  let v1105 : Index := Scalar.indexCast v1104
  let c0_740 : Index := 0#32
  ![v1105.toNat, 0]

def k0_chk2 (v782 : BitVec 32) : Prop :=
  (∀ a, (k0_off94 v782) a + S8x128.size a ≤ S45056x128.size a) ∧
  (∀ a, (k0_off103 v782) a + S8x128.size a ≤ S45056x128.size a) ∧
  (∀ a, (k0_off110 v782) a + S6x128.size a ≤ S45056x128.size a)
theorem k0_off94_inb : ∀ (v782 : BitVec 32) (k0_hw2 : k0_chk2 v782), ∀ a, (k0_off94 v782) a + S8x128.size a ≤ S45056x128.size a := fun v782 k0_hw2 => k0_hw2.1
theorem k0_off103_inb : ∀ (v782 : BitVec 32) (k0_hw2 : k0_chk2 v782), ∀ a, (k0_off103 v782) a + S8x128.size a ≤ S45056x128.size a := fun v782 k0_hw2 => k0_hw2.2.1
theorem k0_off110_inb : ∀ (v782 : BitVec 32) (k0_hw2 : k0_chk2 v782), ∀ a, (k0_off110 v782) a + S6x128.size a ≤ S45056x128.size a := fun v782 k0_hw2 => k0_hw2.2.2

def k0_off111 (v787 : BitVec 32) : Fin 2 → Nat :=
  let c16_i32_744 : BitVec 32 := 16#32
  let v1114 : BitVec 32 := Scalar.addi v787 c16_i32_744
  let v1115 : Index := Scalar.indexCast v1114
  let c0_745 : Index := 0#32
  ![v1115.toNat, 0]

def k0_chk3 (v787 : BitVec 32) : Prop :=
  (∀ a, (k0_off95 v787) a + S8x128.size a ≤ S45056x128.size a) ∧
  (∀ a, (k0_off104 v787) a + S8x128.size a ≤ S45056x128.size a) ∧
  (∀ a, (k0_off111 v787) a + S6x128.size a ≤ S45056x128.size a)
theorem k0_off95_inb : ∀ (v787 : BitVec 32) (k0_hw3 : k0_chk3 v787), ∀ a, (k0_off95 v787) a + S8x128.size a ≤ S45056x128.size a := fun v787 k0_hw3 => k0_hw3.1
theorem k0_off104_inb : ∀ (v787 : BitVec 32) (k0_hw3 : k0_chk3 v787), ∀ a, (k0_off104 v787) a + S8x128.size a ≤ S45056x128.size a := fun v787 k0_hw3 => k0_hw3.2.1
theorem k0_off111_inb : ∀ (v787 : BitVec 32) (k0_hw3 : k0_chk3 v787), ∀ a, (k0_off111 v787) a + S6x128.size a ≤ S45056x128.size a := fun v787 k0_hw3 => k0_hw3.2.2

def k0_off112 (v792 : BitVec 32) : Fin 2 → Nat :=
  let c16_i32_746 : BitVec 32 := 16#32
  let v1117 : BitVec 32 := Scalar.addi v792 c16_i32_746
  let v1118 : Index := Scalar.indexCast v1117
  let c0_747 : Index := 0#32
  ![v1118.toNat, 0]

def k0_chk4 (v792 : BitVec 32) : Prop :=
  (∀ a, (k0_off96 v792) a + S8x128.size a ≤ S45056x128.size a) ∧
  (∀ a, (k0_off105 v792) a + S8x128.size a ≤ S45056x128.size a) ∧
  (∀ a, (k0_off112 v792) a + S6x128.size a ≤ S45056x128.size a)
theorem k0_off96_inb : ∀ (v792 : BitVec 32) (k0_hw4 : k0_chk4 v792), ∀ a, (k0_off96 v792) a + S8x128.size a ≤ S45056x128.size a := fun v792 k0_hw4 => k0_hw4.1
theorem k0_off105_inb : ∀ (v792 : BitVec 32) (k0_hw4 : k0_chk4 v792), ∀ a, (k0_off105 v792) a + S8x128.size a ≤ S45056x128.size a := fun v792 k0_hw4 => k0_hw4.2.1
theorem k0_off112_inb : ∀ (v792 : BitVec 32) (k0_hw4 : k0_chk4 v792), ∀ a, (k0_off112 v792) a + S6x128.size a ≤ S45056x128.size a := fun v792 k0_hw4 => k0_hw4.2.2

def k0_off113 (v797 : BitVec 32) : Fin 2 → Nat :=
  let c16_i32_751 : BitVec 32 := 16#32
  let v1127 : BitVec 32 := Scalar.addi v797 c16_i32_751
  let v1128 : Index := Scalar.indexCast v1127
  let c0_752 : Index := 0#32
  ![v1128.toNat, 0]

def k0_chk5 (v797 : BitVec 32) : Prop :=
  (∀ a, (k0_off97 v797) a + S8x128.size a ≤ S45056x128.size a) ∧
  (∀ a, (k0_off106 v797) a + S8x128.size a ≤ S45056x128.size a) ∧
  (∀ a, (k0_off113 v797) a + S6x128.size a ≤ S45056x128.size a)
theorem k0_off97_inb : ∀ (v797 : BitVec 32) (k0_hw5 : k0_chk5 v797), ∀ a, (k0_off97 v797) a + S8x128.size a ≤ S45056x128.size a := fun v797 k0_hw5 => k0_hw5.1
theorem k0_off106_inb : ∀ (v797 : BitVec 32) (k0_hw5 : k0_chk5 v797), ∀ a, (k0_off106 v797) a + S8x128.size a ≤ S45056x128.size a := fun v797 k0_hw5 => k0_hw5.2.1
theorem k0_off113_inb : ∀ (v797 : BitVec 32) (k0_hw5 : k0_chk5 v797), ∀ a, (k0_off113 v797) a + S6x128.size a ≤ S45056x128.size a := fun v797 k0_hw5 => k0_hw5.2.2

def k0_off114 (v802 : BitVec 32) : Fin 2 → Nat :=
  let c16_i32_753 : BitVec 32 := 16#32
  let v1130 : BitVec 32 := Scalar.addi v802 c16_i32_753
  let v1131 : Index := Scalar.indexCast v1130
  let c0_754 : Index := 0#32
  ![v1131.toNat, 0]

def k0_chk6 (v802 : BitVec 32) : Prop :=
  (∀ a, (k0_off98 v802) a + S8x128.size a ≤ S45056x128.size a) ∧
  (∀ a, (k0_off107 v802) a + S8x128.size a ≤ S45056x128.size a) ∧
  (∀ a, (k0_off114 v802) a + S6x128.size a ≤ S45056x128.size a)
theorem k0_off98_inb : ∀ (v802 : BitVec 32) (k0_hw6 : k0_chk6 v802), ∀ a, (k0_off98 v802) a + S8x128.size a ≤ S45056x128.size a := fun v802 k0_hw6 => k0_hw6.1
theorem k0_off107_inb : ∀ (v802 : BitVec 32) (k0_hw6 : k0_chk6 v802), ∀ a, (k0_off107 v802) a + S8x128.size a ≤ S45056x128.size a := fun v802 k0_hw6 => k0_hw6.2.1
theorem k0_off114_inb : ∀ (v802 : BitVec 32) (k0_hw6 : k0_chk6 v802), ∀ a, (k0_off114 v802) a + S6x128.size a ≤ S45056x128.size a := fun v802 k0_hw6 => k0_hw6.2.2

def k0_off115 (v807 : BitVec 32) : Fin 2 → Nat :=
  let c16_i32_758 : BitVec 32 := 16#32
  let v1140 : BitVec 32 := Scalar.addi v807 c16_i32_758
  let v1141 : Index := Scalar.indexCast v1140
  let c0_759 : Index := 0#32
  ![v1141.toNat, 0]

def k0_chk7 (v807 : BitVec 32) : Prop :=
  (∀ a, (k0_off99 v807) a + S8x128.size a ≤ S45056x128.size a) ∧
  (∀ a, (k0_off108 v807) a + S8x128.size a ≤ S45056x128.size a) ∧
  (∀ a, (k0_off115 v807) a + S6x128.size a ≤ S45056x128.size a)
theorem k0_off99_inb : ∀ (v807 : BitVec 32) (k0_hw7 : k0_chk7 v807), ∀ a, (k0_off99 v807) a + S8x128.size a ≤ S45056x128.size a := fun v807 k0_hw7 => k0_hw7.1
theorem k0_off108_inb : ∀ (v807 : BitVec 32) (k0_hw7 : k0_chk7 v807), ∀ a, (k0_off108 v807) a + S8x128.size a ≤ S45056x128.size a := fun v807 k0_hw7 => k0_hw7.2.1
theorem k0_off115_inb : ∀ (v807 : BitVec 32) (k0_hw7 : k0_chk7 v807), ∀ a, (k0_off115 v807) a + S6x128.size a ≤ S45056x128.size a := fun v807 k0_hw7 => k0_hw7.2.2

def k0_off116 (v812 : BitVec 32) : Fin 2 → Nat :=
  let c16_i32_760 : BitVec 32 := 16#32
  let v1143 : BitVec 32 := Scalar.addi v812 c16_i32_760
  let v1144 : Index := Scalar.indexCast v1143
  let c0_761 : Index := 0#32
  ![v1144.toNat, 0]

def k0_chk8 (v812 : BitVec 32) : Prop :=
  (∀ (r : Fin 2), ∀ a, (k0_off100 v812 (BitVec.ofNat 32 (8 * r.val))) a + S8x128.size a ≤ S45056x128.size a) ∧
  (∀ a, (k0_off116 v812) a + S6x128.size a ≤ S45056x128.size a)
theorem k0_off100_inb : ∀ (v812 : BitVec 32) (k0_hw8 : k0_chk8 v812), ∀ (r : Fin 2), ∀ a, (k0_off100 v812 (BitVec.ofNat 32 (8 * r.val))) a + S8x128.size a ≤ S45056x128.size a := fun v812 k0_hw8 r => k0_hw8.1 r
theorem k0_off116_inb : ∀ (v812 : BitVec 32) (k0_hw8 : k0_chk8 v812), ∀ a, (k0_off116 v812) a + S6x128.size a ≤ S45056x128.size a := fun v812 k0_hw8 => k0_hw8.2

def k0_off117 (k0_t3 : Fin k0_t3_loop.trips) (k0_t4 : Fin k0_t4_loop.trips) (c32_i32_786 : BitVec 32) (c0_i32_789 : BitVec 32) : Fin 2 → Nat :=
  let c0_i32_565 : BitVec 32 := 0#32
  let c0_i32_183 : BitVec 32 := 0#32
  let c1_i32_185 : BitVec 32 := 1#32
  let arg19 : BitVec 32 := Scf.iv c0_i32_183 c1_i32_185 k0_t3
  let c1_i32_564 : BitVec 32 := 1#32
  let v764 : BitVec 32 := Scalar.muli arg19 c1_i32_564
  let v765 : BitVec 32 := Scalar.addi c0_i32_565 v764
  let c44_i32_785 : BitVec 32 := 44#32
  let v1201 : BitVec 32 := Scalar.muli v765 c44_i32_785
  let v1202 : BitVec 32 := Scalar.addi v1201 c32_i32_786
  let c33_i32_787 : BitVec 32 := 33#32
  let v1203 : BitVec 32 := Scalar.muli v1202 c33_i32_787
  let c0_i32_579 : BitVec 32 := 0#32
  let c0_i32_566 : BitVec 32 := 0#32
  let c1_i32_568 : BitVec 32 := 1#32
  let arg20 : BitVec 32 := Scf.iv c0_i32_566 c1_i32_568 k0_t4
  let c1_i32_578 : BitVec 32 := 1#32
  let v771 : BitVec 32 := Scalar.muli arg20 c1_i32_578
  let v772 : BitVec 32 := Scalar.addi c0_i32_579 v771
  let c2_i32_788 : BitVec 32 := 2#32
  let v1204 : BitVec 32 := Scalar.muli v772 c2_i32_788
  let v1205 : BitVec 32 := Scalar.addi v1203 v1204
  let v1206 : BitVec 32 := Scalar.addi v1205 c0_i32_789
  let v1208 : Index := Scalar.indexCast v1206
  let c0_790 : Index := 0#32
  ![v1208.toNat, 0]
def k0_off118 (k0_t3 : Fin k0_t3_loop.trips) : Fin 5 → Nat :=
  let c0_i32_565 : BitVec 32 := 0#32
  let c0_i32_183 : BitVec 32 := 0#32
  let c1_i32_185 : BitVec 32 := 1#32
  let arg19 : BitVec 32 := Scf.iv c0_i32_183 c1_i32_185 k0_t3
  let c1_i32_564 : BitVec 32 := 1#32
  let v764 : BitVec 32 := Scalar.muli arg19 c1_i32_564
  let v765 : BitVec 32 := Scalar.addi c0_i32_565 v764
  let c0_i32_570 : BitVec 32 := 0#32
  let c0_i32_571 : BitVec 32 := 0#32
  let c0_i32_572 : BitVec 32 := 0#32
  let c0_i32_573 : BitVec 32 := 0#32
  ![v765.toNat, 0, 0, 0, 0]
def k0_off119 (k0_t3 : Fin k0_t3_loop.trips) : Fin 5 → Nat :=
  let c0_i32_565 : BitVec 32 := 0#32
  let c0_i32_183 : BitVec 32 := 0#32
  let c1_i32_185 : BitVec 32 := 1#32
  let arg19 : BitVec 32 := Scf.iv c0_i32_183 c1_i32_185 k0_t3
  let c1_i32_564 : BitVec 32 := 1#32
  let v764 : BitVec 32 := Scalar.muli arg19 c1_i32_564
  let v765 : BitVec 32 := Scalar.addi c0_i32_565 v764
  let c0_i32_574 : BitVec 32 := 0#32
  let c0_i32_575 : BitVec 32 := 0#32
  let c0_i32_576 : BitVec 32 := 0#32
  let c0_i32_577 : BitVec 32 := 0#32
  ![v765.toNat, 0, 0, 0, 0]
@[reducible] def k0_t5_loop : Scf.Loop 32 :=
  let c0_i32_187 : BitVec 32 := 0#32
  let c16_i32_188 : BitVec 32 := 16#32
  let v499 : BitVec 32 := Scalar.addi c0_i32_187 c16_i32_188
  let c1_i32_189 : BitVec 32 := 1#32
  ⟨c0_i32_187, v499, c1_i32_189⟩
def k0_off120 (k0_t5 : Fin k0_t5_loop.trips) : Fin 5 → Nat :=
  let c0_i32_565 : BitVec 32 := 0#32
  let c0_i32_187 : BitVec 32 := 0#32
  let c1_i32_189 : BitVec 32 := 1#32
  let arg19 : BitVec 32 := Scf.iv c0_i32_187 c1_i32_189 k0_t5
  let c1_i32_564 : BitVec 32 := 1#32
  let v764 : BitVec 32 := Scalar.muli arg19 c1_i32_564
  let v765 : BitVec 32 := Scalar.addi c0_i32_565 v764
  let c0_i32_566 : BitVec 32 := 0#32
  let c0_i32_567 : BitVec 32 := 0#32
  let c0_i32_568 : BitVec 32 := 0#32
  let c0_i32_569 : BitVec 32 := 0#32
  ![v765.toNat, 0, 0, 0, 0]
def k0_off121 (k0_t5 : Fin k0_t5_loop.trips) : Fin 5 → Nat :=
  let c0_i32_565 : BitVec 32 := 0#32
  let c0_i32_187 : BitVec 32 := 0#32
  let c1_i32_189 : BitVec 32 := 1#32
  let arg19 : BitVec 32 := Scf.iv c0_i32_187 c1_i32_189 k0_t5
  let c1_i32_564 : BitVec 32 := 1#32
  let v764 : BitVec 32 := Scalar.muli arg19 c1_i32_564
  let v765 : BitVec 32 := Scalar.addi c0_i32_565 v764
  let c0_i32_570 : BitVec 32 := 0#32
  let c0_i32_571 : BitVec 32 := 0#32
  let c0_i32_572 : BitVec 32 := 0#32
  let c0_i32_573 : BitVec 32 := 0#32
  ![v765.toNat, 0, 0, 0, 0]
-- ==== ReferenceIdeal.lean ====
abbrev S256x11264 : Shape := ⟨2, ![256, 11264]⟩
abbrev S32x11264 : Shape := ⟨2, ![32, 11264]⟩
abbrev S2048 : Shape := ⟨1, ![2048]⟩
abbrev S8 : Shape := ⟨1, ![8]⟩
abbrev S_ : Shape := ⟨0, ![]⟩
abbrev S1x8x1 : Shape := ⟨3, ![1, 8, 1]⟩
abbrev S256x1x11264 : Shape := ⟨3, ![256, 1, 11264]⟩
abbrev S256x8x11264 : Shape := ⟨3, ![256, 8, 11264]⟩
abbrev S2048x11264 : Shape := ⟨2, ![2048, 11264]⟩
abbrev S2048x1 : Shape := ⟨2, ![2048, 1]⟩
abbrev S16x16x2x2x2x44x256 : Shape := ⟨7, ![16, 16, 2, 2, 2, 44, 256]⟩
abbrev S16x16x2x1x2x44x256 : Shape := ⟨7, ![16, 16, 2, 1, 2, 44, 256]⟩
abbrev S16x16x2x2x44x256 : Shape := ⟨6, ![16, 16, 2, 2, 44, 256]⟩
abbrev S16x44x16x256x2x2 : Shape := ⟨6, ![16, 44, 16, 256, 2, 2]⟩
abbrev S16x44x4096x4 : Shape := ⟨4, ![16, 44, 4096, 4]⟩
abbrev S32x44x256 : Shape := ⟨3, ![32, 44, 256]⟩
abbrev S44x32x256 : Shape := ⟨3, ![44, 32, 256]⟩

abbrev nBuf : Space → Nat
  | .hbm => 43
  | .vmem => 0
  | .smem => 0
  | _ => 0

abbrev bufTy : (tb : Table) → Fin (tcTables nBuf tb) → BufTy
  | .hbm, ⟨0, _⟩ => ⟨S256x11264, .i32⟩
  | .hbm, ⟨1, _⟩ => ⟨S32x11264, .bf16⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S256x11264, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S1x8x1, .i32⟩
  | .hbm, ⟨12, _⟩ => ⟨S256x1x11264, .i32⟩
  | .hbm, ⟨13, _⟩ => ⟨S256x8x11264, .i32⟩
  | .hbm, ⟨14, _⟩ => ⟨S256x8x11264, .i32⟩
  | .hbm, ⟨15, _⟩ => ⟨S256x8x11264, .i32⟩
  | .hbm, ⟨16, _⟩ => ⟨S_, .i32⟩
  | .hbm, ⟨17, _⟩ => ⟨S256x8x11264, .i32⟩
  | .hbm, ⟨18, _⟩ => ⟨S256x8x11264, .i32⟩
  | .hbm, ⟨19, _⟩ => ⟨S2048x11264, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x11264, .i32⟩
  | .hbm, ⟨29, _⟩ => ⟨S16x16x2x2x2x44x256, .i32⟩
  | .hbm, ⟨30, _⟩ => ⟨S16x16x2x1x2x44x256, .i32⟩
  | .hbm, ⟨31, _⟩ => ⟨S16x16x2x2x44x256, .i32⟩
  | .hbm, ⟨32, _⟩ => ⟨S16x16x2x1x2x44x256, .i32⟩
  | .hbm, ⟨33, _⟩ => ⟨S16x16x2x2x44x256, .i32⟩
  | .hbm, ⟨34, _⟩ => ⟨S_, .i32⟩
  | .hbm, ⟨35, _⟩ => ⟨S16x16x2x2x44x256, .i32⟩
  | .hbm, ⟨36, _⟩ => ⟨S16x16x2x2x44x256, .i32⟩
  | .hbm, ⟨37, _⟩ => ⟨S16x16x2x2x44x256, .i32⟩
  | .hbm, ⟨38, _⟩ => ⟨S16x16x2x2x44x256, .i8⟩
  | .hbm, ⟨39, _⟩ => ⟨S16x44x16x256x2x2, .i8⟩
  | .hbm, ⟨40, _⟩ => ⟨S16x44x4096x4, .i8⟩
  | .hbm, ⟨41, _⟩ => ⟨S32x44x256, .bf16⟩
  | .hbm, ⟨42, _⟩ => ⟨S44x32x256, .bf16⟩
  | _, _ => ⟨S256x11264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Common.lean ====
/- Shared names of the proof: the resource algebra, the kernel's buffers and the loop bodies at them. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's, with counters for the body's own transfers. -/
abbrev UU (nD : Nat) (τ : Topo) : Type := Pipeline.UD sig nD τ
abbrev 𝒱₀ : Variants := Variants.none

/-- The operands in HBM. -/
abbrev mQ : Memref sig .tc .hbm S256x11264 .i32 := Memref.whole main_arg0
abbrev mS : Memref sig .tc .hbm S32x11264 .bf16 := Memref.whole main_arg1
abbrev mG : Memref sig .tc .hbm S16x128 .i32 := Memref.whole main_v0
abbrev mW : Memref sig .tc .hbm S16x44x32x1x128 .i32 := Memref.whole main_v1_0
abbrev mSO : Memref sig .tc .hbm S44x32x256 .bf16 := Memref.whole main_v1_1
abbrev mP : Memref sig .tc .hbm S16x128 .i32 := Memref.whole main_v1_2
/-- The scratch buffers. -/
abbrev vQ : Memref sig .tc .vmem S256x11264 .i32 := Memref.whole cc0_scratch0
abbrev vM : Memref sig .tc .vmem S45056x128 .i32 := Memref.whole cc0_scratch1
abbrev vO : Memref sig .tc .vmem S16x44x33x1x128 .i32 := Memref.whole cc0_scratch2
abbrev vS : Memref sig .tc .vmem S32x11264 .bf16 := Memref.whole cc0_scratch3
abbrev vG : Memref sig .tc .vmem S16x128 .i32 := Memref.whole cc0_scratch4
abbrev vP : Memref sig .tc .vmem S16x128 .i32 := Memref.whole cc0_scratch5
abbrev vT : Memref sig .tc .vmem S16x128 .i32 := Memref.whole cc0_scratch6
abbrev sT : Memref sig .tc .smem S16x128 .i32 := Memref.whole cc0_scratch7

/-- A buffer's contents, and the buffer held whole at contents `f`. -/
abbrev CBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : CBuf (F := F) c M) :
    sProp (MT nD τ sig Unit (Elt F) ℕ (UU nD τ) ℕ) :=
  M.view.loc (c : Thread nD τ) ↦{fullShare} f
/-- The elements of a memref held by themselves at contents `f`. -/
abbrev ptw (c : Dev nD) {sp : Space} {S : Shape} {e : EltTy} (M : Memref sig .tc sp S e) (f : CBuf (F := F) c M) :
    sProp (MT nD τ sig Unit (Elt F) ℕ (UU nD τ) ℕ) :=
  M.view.loc (c : Thread nD τ) ↦[M.view.set]{fullShare} f

/-- Rows `16 k … 16 k + 16` of the packed words: chunk `k`, in HBM and in VMEM. -/
abbrev qSrc (k : Fin k0_t1_loop.trips) : Memref sig .tc .hbm S16x11264 .i32 :=
  mQ.slice (Rect.unit (s := S256x11264) (k0_off2 k) S16x11264.size (Gen.k0_off2_inb k)) (fun _ => rfl)
abbrev qDst (k : Fin k0_t1_loop.trips) : Memref sig .tc .vmem S16x11264 .i32 :=
  vQ.slice (Rect.unit (s := S256x11264) (k0_off2 k) S16x11264.size (Gen.k0_off2_inb k)) (fun _ => rfl)

end Cert.KernelIdeal.Hand

end
-- ==== Proof.GatherRun.lean ====
/- One trip of the gather loop, run: the stores it makes, as a list. -/
module

public import proofs.«01_k».proof.Proof.Common

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table's words are row numbers of the half-word buffer that leave room for a whole group of rows. -/
def TabOk (c : Dev nD) (ft : CBuf (F := F) c sT) : Prop :=
  ∀ (r : LoadRect S16x128) (x : r.shape.Idx), (sT.view.readAt (Elt F) r ft x : BitVec 32).toNat + 22 ≤ 45056

/-- Rows `k … k + n` past a table word lie in the buffer. -/
theorem rows_inb {w : BitVec 32} (h : w.toNat + 22 ≤ 45056) (k n : ℕ) (hk : k + n ≤ 22) :
    ∀ a : Fin 2, (![(Scalar.indexCast (Scalar.addi w (BitVec.ofNat 32 k)) : Index).toNat, 0] : Fin 2 → ℕ) a + (![n, 128] : Fin 2 → ℕ) a
      ≤ S45056x128.size a := by
  intro a
  have e : (Scalar.indexCast (Scalar.addi w (BitVec.ofNat 32 k)) : Index).toNat = w.toNat + k := by
    show (w + BitVec.ofNat 32 k).toNat = _
    simp only [BitVec.toNat_add, BitVec.toNat_ofNat]
    omega
  fin_cases a
  · show (Scalar.indexCast (Scalar.addi w (BitVec.ofNat 32 k)) : Index).toNat + n ≤ 45056
    omega
  · show 0 + 128 ≤ 128
    omega

theorem chk1_of {w : BitVec 32} (h : w.toNat + 22 ≤ 45056) : k0_chk1 w :=
  ⟨rows_inb h 0 8 (by omega), rows_inb h 8 8 (by omega), rows_inb h 16 6 (by omega)⟩
theorem chk2_of {w : BitVec 32} (h : w.toNat + 22 ≤ 45056) : k0_chk2 w := chk1_of h
theorem chk3_of {w : BitVec 32} (h : w.toNat + 22 ≤ 45056) : k0_chk3 w := chk1_of h
theorem chk4_of {w : BitVec 32} (h : w.toNat + 22 ≤ 45056) : k0_chk4 w := chk1_of h
theorem chk5_of {w : BitVec 32} (h : w.toNat + 22 ≤ 45056) : k0_chk5 w := chk1_of h
theorem chk6_of {w : BitVec 32} (h : w.toNat + 22 ≤ 45056) : k0_chk6 w := chk1_of h
theorem chk7_of {w : BitVec 32} (h : w.toNat + 22 ≤ 45056) : k0_chk7 w := chk1_of h
theorem chk8_of {w : BitVec 32} (h : w.toNat + 22 ≤ 45056) : k0_chk8 w :=
  ⟨fun r => rows_inb h (8 * r.val) 8 (by omega), rows_inb h 16 6 (by omega)⟩

/-- The body of the gather loop's inner trip. -/
abbrev t4b (v481 v482 : IVec S16x128 32) (k3 : Fin k0_t3_loop.trips) (v765 : BitVec 32) :=
  Gen.k0_t4_body (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12 v481 v482 k3 v765

/-- The output buffer seen as rows of 128 words. -/
abbrev vO2 : Memref sig .tc .vmem S23232x128 .i32 :=
  vO.reshape S23232x128 Gen.reshapes_S16x44x33x1x128_S23232x128.1 Gen.reshapes_S16x44x33x1x128_S23232x128.2 (Memref.isWhole_whole _).contiguous

/-- Rows `1452 k … 1452 (k + 1)` of the output buffer: what block `k` of the output is gathered into. -/
theorem oBlk_inb (k : Fin k0_t3_loop.trips) : ∀ a, (![1452 * k.val, 0] : Fin 2 → ℕ) a + (![1452, 128] : Fin 2 → ℕ) a ≤ S23232x128.size a := by
  have h : k.val < 16 := k.isLt
  intro a; fin_cases a
  · show 1452 * k.val + 1452 ≤ 23232; omega
  · show 0 + 128 ≤ 128; omega
abbrev oBlk (k : Fin k0_t3_loop.trips) : Memref sig .tc .vmem ⟨2, ![1452, 128]⟩ .i32 :=
  vO2.slice (Rect.unit (s := S23232x128) ![1452 * k.val, 0] ![1452, 128] (oBlk_inb k)) (fun _ => rfl)

theorem vO2_set_slice (r : Rect S23232x128) (h : ∀ a, r.stride a = 1) : (vO2.slice r h).view.set = vO2.view.setOn r.set := by
  exact View.set_slice _ _

theorem off101_words : ∀ (k3 : Fin k0_t3_loop.trips) (k4 : Fin k0_t4_loop.trips) (w1 : Fin 18) (w2 : Fin 2),
    k0_off101 k3 k4 (BitVec.ofNat 32 w1.val) (BitVec.ofNat 32 w2.val) = ![1452 * k3.val + 33 * w1.val + 2 * k4.val + w2.val, 0] := by
  decide +kernel

theorem off117_words : ∀ (k3 : Fin k0_t3_loop.trips) (k4 : Fin k0_t4_loop.trips) (w1 w2 : Fin 2),
    k0_off117 k3 k4 (BitVec.ofNat 32 (32 + w1.val)) (BitVec.ofNat 32 w2.val) = ![1452 * k3.val + 33 * (32 + w1.val) + 2 * k4.val + w2.val, 0] := by
  decide +kernel

/-- A store of every 66th row, `n` of them within block `k`, writes elements of the block. -/
theorem store_subset (k : Fin k0_t3_loop.trips) (n : ℕ) (o : Fin 2 → ℕ) (inb : ∀ a, (![n, 128] : Fin 2 → ℕ) a = 0 ∨ o a + (![66, 1] : Fin 2 → ℕ) a * ((![n, 128] : Fin 2 → ℕ) a - 1) < S23232x128.size a)
    (h1 : 1452 * k.val ≤ o 0) (h2 : o 0 + 66 * n ≤ 1452 * k.val + 1452 + 65) :
    LE.le (α := Finset vO.view.ty.Idx) (vO2.view.setOn (⟨o, ![n, 128], ![66, 1], inb⟩ : LoadRect S23232x128).set) (oBlk k).view.set := by
  rw [vO2_set_slice]
  refine Finset.map_subset_map.mpr fun x hx => ?_
  have h0 : ∃ j < n, (x 0).val = o 0 + 66 * j := ((LoadRect.mem_set _).mp hx) 0
  obtain ⟨j, hj, e⟩ := h0
  rw [Rect.mem_set_unit]
  intro a
  fin_cases a
  · show 1452 * k.val ≤ (x 0).val ∧ (x 0).val < 1452 * k.val + 1452
    omega
  · have := (x 1).isLt
    exact ⟨Nat.zero_le _, by show (x 1).val < 0 + 128; rw [Nat.zero_add]; exact this⟩

theorem store_subset_access (k : Fin k0_t3_loop.trips) (n : ℕ) (o : Fin 2 → ℕ) (inb : ∀ a, (![n, 128] : Fin 2 → ℕ) a = 0 ∨ o a + (![66, 1] : Fin 2 → ℕ) a * ((![n, 128] : Fin 2 → ℕ) a - 1) < S23232x128.size a)
    (pos : ∀ a, 0 < (![66, 1] : Fin 2 → ℕ) a)
    (h1 : 1452 * k.val ≤ o 0) (h2 : o 0 + 66 * n ≤ 1452 * k.val + 1452 + 65) :
    LE.le (α := Finset vO.view.ty.Idx) ((vO2.access ⟨⟨o, ![n, 128], ![66, 1], inb⟩, pos⟩).setOn Finset.univ) (oBlk k).view.set :=
  (Memref.set_access_subset_setOn vO2 _).trans (store_subset k n o inb h1 h2)

theorem store101_bounds (k3 : Fin k0_t3_loop.trips) (k4 : Fin k0_t4_loop.trips) (w1 w2 : BitVec 32) (hw : w1.toNat < 18 ∧ w2.toNat < 2) :
    1452 * k3.val ≤ k0_off101 k3 k4 w1 w2 0 ∧ k0_off101 k3 k4 w1 w2 0 + 66 * 8 ≤ 1452 * k3.val + 1452 + 65 := by
  have h4 : k4.val < 16 := k4.isLt
  have := congrFun (off101_words k3 k4 ⟨_, hw.1⟩ ⟨_, hw.2⟩) 0
  simp only [BitVec.ofNat_toNat, BitVec.setWidth_eq] at this
  rw [this]
  show 1452 * k3.val ≤ 1452 * k3.val + 33 * w1.toNat + 2 * k4.val + w2.toNat ∧ 1452 * k3.val + 33 * w1.toNat + 2 * k4.val + w2.toNat + 66 * 8 ≤ 1452 * k3.val + 1452 + 65
  omega

theorem store117_bounds (k3 : Fin k0_t3_loop.trips) (k4 : Fin k0_t4_loop.trips) (w1 w2 : BitVec 32) (hw : (32 ≤ w1.toNat ∧ w1.toNat < 34) ∧ w2.toNat < 2) :
    1452 * k3.val ≤ k0_off117 k3 k4 w1 w2 0 ∧ k0_off117 k3 k4 w1 w2 0 + 66 * 6 ≤ 1452 * k3.val + 1452 + 65 := by
  have h4 : k4.val < 16 := k4.isLt
  have := congrFun (off117_words k3 k4 ⟨w1.toNat - 32, by omega⟩ ⟨_, hw.2⟩) 0
  simp only [show 32 + (w1.toNat - 32) = w1.toNat by omega, BitVec.ofNat_toNat, BitVec.setWidth_eq] at this
  rw [this]
  show 1452 * k3.val ≤ 1452 * k3.val + 33 * w1.toNat + 2 * k4.val + w2.toNat ∧ 1452 * k3.val + 33 * w1.toNat + 2 * k4.val + w2.toNat + 66 * 6 ≤ 1452 * k3.val + 1452 + 65
  omega

/-- The trip leaves the half-words and the table unchanged, and its stores on its block of the output buffer. -/
def gatherRun (c : Dev nD) (v481 v482 : IVec S16x128 32) (k3 : Fin k0_t3_loop.trips) (v765 : BitVec 32) (k4 : Fin k0_t4_loop.trips)
    (fm : CBuf (F := F) c vM) (ft : CBuf (F := F) c sT) (hT : TabOk c ft) :
   { L : CBuf (F := F) c vO → CBuf (F := F) c vO //
    ∀ (f : CBuf (F := F) c vO) (Q : Unit → sProp (MT nD τ sig Unit (Elt F) ℕ (UU nD τ) ℕ)),
     iprop(pt c vM fm ∗ pt c sT ft ∗ ptw c (oBlk k3) f ∗ (iprop(pt c vM fm ∗ pt c sT ft ∗ ptw c (oBlk k3) (L f)) -∗ Q ()))
      ⊢ wp frame (wpE (defs₀ (F := F)) 𝒱₀ (c : Thread nD τ) none) Set.univ (t4b (F := F) v481 v482 k3 v765 k4 ()) Q } := by
  refine ⟨?_, fun f Q => ?run⟩
  case run =>
    unfold t4b Gen.k0_t4_body
    have hS8 := fun w1 w2 inb hw => store_subset k3 8 (k0_off101 k3 k4 w1 w2) inb (store101_bounds k3 k4 w1 w2 hw).1 (store101_bounds k3 k4 w1 w2 hw).2
    have hS6 := fun w1 w2 inb hw => store_subset k3 6 (k0_off117 k3 k4 w1 w2) inb (store117_bounds k3 k4 w1 w2 hw).1 (store117_bounds k3 k4 w1 w2 hw).2
    have hA8 := fun w1 w2 inb pos hw => store_subset_access k3 8 (k0_off101 k3 k4 w1 w2) inb pos (store101_bounds k3 k4 w1 w2 hw).1 (store101_bounds k3 k4 w1 w2 hw).2
    have hA6 := fun w1 w2 inb pos hw => store_subset_access k3 6 (k0_off117 k3 k4 w1 w2) inb pos (store117_bounds k3 k4 w1 w2 hw).1 (store117_bounds k3 k4 w1 w2 hw).2
    iintro ⟨HM, HT, HO, Hk⟩
    sl_exec_parts (disch := (first | exact chk1_of (hT _ _) | exact chk2_of (hT _ _) | exact chk3_of (hT _ _) | exact chk4_of (hT _ _) | exact chk5_of (hT _ _) | exact chk6_of (hT _ _) | exact chk7_of (hT _ _) | exact chk8_of (hT _ _)))
    sl_step
    iapply Hk
    isplitl [HM]; · iexact HM
    isplitl [HT]; · iexact HT
    iexact HO
end Cert.KernelIdeal.Hand

end
-- ==== Proof.ByteTranspose.lean ====
/- The byte transpose of four words, as vectors, as words and bit by bit. -/
module

public import Idealize.ShloMosaic.Lib.Tactic
public import Mathlib.Tactic.IntervalCases

@[expose] public section

set_option maxRecDepth 16384

noncomputable section

namespace Cert.KernelIdeal.Hand

open Idealize.ShloMosaic

/-- Each word shifted right by `k` bits. -/
def vsrl {s : Shape} (k : BitVec 32) (x : IVec s 32) : IVec s 32 := shrui x (broadcast s k)
/-- The even bytes of `a`, and the even bytes of `b` placed at the odd ones. -/
def vp8 {s : Shape} (a b : IVec s 32) : IVec s 32 :=
  ori (andi a (broadcast s 16711935#32)) (shli (andi b (broadcast s 16711935#32)) (broadcast s 8#32))
/-- Byte `b` of each of four words, gathered into one word. -/
def vbt {s : Shape} (b : Fin 4) (x0 x1 x2 x3 : IVec s 32) : IVec s 32 :=
  match b with
  | 0 => vp8 (packElementwiseI16 x0 x2) (packElementwiseI16 x1 x3)
  | 1 => vp8 (vsrl 8#32 (packElementwiseI16 x0 x2)) (vsrl 8#32 (packElementwiseI16 x1 x3))
  | 2 => vp8 (packElementwiseI16 (vsrl 16#32 x0) (vsrl 16#32 x2)) (packElementwiseI16 (vsrl 16#32 x1) (vsrl 16#32 x3))
  | 3 => vp8 (vsrl 8#32 (packElementwiseI16 (vsrl 16#32 x0) (vsrl 16#32 x2))) (vsrl 8#32 (packElementwiseI16 (vsrl 16#32 x1) (vsrl 16#32 x3)))
/-- What the split stores for nibble `n` (0..7): the byte transpose of byte `n / 2`, shifted by four for an odd nibble. -/
def vsplit {s : Shape} (n : Fin 8) (x0 x1 x2 x3 : IVec s 32) : IVec s 32 :=
  match n with
  | 0 => vbt 0 x0 x1 x2 x3
  | 1 => vsrl 4#32 (vbt 0 x0 x1 x2 x3)
  | 2 => vbt 1 x0 x1 x2 x3
  | 3 => vsrl 4#32 (vbt 1 x0 x1 x2 x3)
  | 4 => vbt 2 x0 x1 x2 x3
  | 5 => vsrl 4#32 (vbt 2 x0 x1 x2 x3)
  | 6 => vbt 3 x0 x1 x2 x3
  | 7 => vsrl 4#32 (vbt 3 x0 x1 x2 x3)

/-! ### Word by word -/

/-- The low halves of two words joined. -/
def p16 (a b : BitVec 32) : BitVec 32 := (a.setWidth 16).setWidth 32 ||| ((b.setWidth 16).setWidth 32 <<< 16)
def p8 (a b : BitVec 32) : BitVec 32 := (a &&& 16711935#32) ||| ((b &&& 16711935#32) <<< 8)
def p4 (a b : BitVec 32) : BitVec 32 := (a &&& 252645135#32) ||| ((b &&& 252645135#32) <<< 4)
/-- Byte `b` of each of four words. -/
def bt (b : Fin 4) (x0 x1 x2 x3 : BitVec 32) : BitVec 32 :=
  match b with
  | 0 => p8 (p16 x0 x2) (p16 x1 x3)
  | 1 => p8 (p16 x0 x2 >>> 8) (p16 x1 x3 >>> 8)
  | 2 => p8 (p16 (x0 >>> 16) (x2 >>> 16)) (p16 (x1 >>> 16) (x3 >>> 16))
  | 3 => p8 (p16 (x0 >>> 16) (x2 >>> 16) >>> 8) (p16 (x1 >>> 16) (x3 >>> 16) >>> 8)

/-- Bit `t` of byte `b`'s word is bit `8 b + t % 8` of the word `t / 8`. -/
theorem bt_getLsbD (b : Fin 4) (x0 x1 x2 x3 : BitVec 32) (t : ℕ) (ht : t < 32) :
    (bt b x0 x1 x2 x3).getLsbD t = ((![x0, x1, x2, x3] : Fin 4 → BitVec 32) ⟨t / 8, by omega⟩).getLsbD (8 * b.val + t % 8) := by
  fin_cases b <;> interval_cases t <;> simp [bt, p8, p16]

theorem vbt_apply {s : Shape} (b : Fin 4) (x0 x1 x2 x3 : IVec s 32) (j : s.Idx) :
    vbt b x0 x1 x2 x3 j = bt b (x0 j) (x1 j) (x2 j) (x3 j) := by
  have hp : ∀ a b : IVec s 32, packElementwiseI16 a b j = p16 (a j) (b j) := fun a b => by
    simp [packElementwiseI16, packElementwiseInt, p16, List.finRange_succ]
  fin_cases b
  · show p8 (packElementwiseI16 x0 x2 j) (packElementwiseI16 x1 x3 j) = _
    rw [hp, hp]; rfl
  · show p8 (packElementwiseI16 x0 x2 j >>> 8) (packElementwiseI16 x1 x3 j >>> 8) = _
    rw [hp, hp]; rfl
  · show p8 (packElementwiseI16 (vsrl 16#32 x0) (vsrl 16#32 x2) j) (packElementwiseI16 (vsrl 16#32 x1) (vsrl 16#32 x3) j) = _
    rw [hp, hp]; rfl
  · show p8 (packElementwiseI16 (vsrl 16#32 x0) (vsrl 16#32 x2) j >>> 8) (packElementwiseI16 (vsrl 16#32 x1) (vsrl 16#32 x3) j >>> 8) = _
    rw [hp, hp]; rfl

/-- The split's word of nibble `n`. -/
def splitWord (n : Fin 8) (x0 x1 x2 x3 : BitVec 32) : BitVec 32 :=
  bt ⟨n.val / 2, by omega⟩ x0 x1 x2 x3 >>> (4 * (n.val % 2))

theorem vsplit_apply {s : Shape} (n : Fin 8) (x0 x1 x2 x3 : IVec s 32) (j : s.Idx) :
    vsplit n x0 x1 x2 x3 j = splitWord n (x0 j) (x1 j) (x2 j) (x3 j) := by
  fin_cases n
  · exact (vbt_apply 0 x0 x1 x2 x3 j).trans (by simp [splitWord])
  · show vbt 0 x0 x1 x2 x3 j >>> 4 = _
    rw [vbt_apply]; rfl
  · exact (vbt_apply 1 x0 x1 x2 x3 j).trans (by simp [splitWord])
  · show vbt 1 x0 x1 x2 x3 j >>> 4 = _
    rw [vbt_apply]; rfl
  · exact (vbt_apply 2 x0 x1 x2 x3 j).trans (by simp [splitWord])
  · show vbt 2 x0 x1 x2 x3 j >>> 4 = _
    rw [vbt_apply]; rfl
  · exact (vbt_apply 3 x0 x1 x2 x3 j).trans (by simp [splitWord])
  · show vbt 3 x0 x1 x2 x3 j >>> 4 = _
    rw [vbt_apply]; rfl

/-- The low nibbles of the split's word are nibble `n` of each of the four words. -/
theorem splitWord_getLsbD (n : Fin 8) (x0 x1 x2 x3 : BitVec 32) (t : ℕ) (ht : t < 32) (h4 : t % 8 < 4) :
    (splitWord n x0 x1 x2 x3).getLsbD t = ((![x0, x1, x2, x3] : Fin 4 → BitVec 32) ⟨t / 8, by omega⟩).getLsbD (4 * n.val + t % 8) := by
  rw [splitWord, BitVec.getLsbD_ushiftRight, bt_getLsbD _ _ _ _ _ _ (by omega)]
  congr 1
  · congr 1
    apply Fin.ext
    show (4 * (n.val % 2) + t) / 8 = t / 8
    omega
  · show 8 * (n.val / 2) + (4 * (n.val % 2) + t) % 8 = 4 * n.val + t % 8
    omega

/-- Bit `t` of two words' nibbles joined. -/
theorem p4_getLsbD (lo hi : BitVec 32) (t : ℕ) (ht : t < 32) :
    (p4 lo hi).getLsbD t = if t % 8 < 4 then lo.getLsbD t else hi.getLsbD (t - 4) := by
  interval_cases t <;> simp [p4]

end Cert.KernelIdeal.Hand

end
-- ==== Proof.Gather.lean ====
/- What one trip of the gather leaves in the output buffer: its stores as one list, in closed form. -/
module

public import proofs.«01_k».proof.Proof.GatherRun
public import proofs.«01_k».proof.Proof.ByteTranspose
public import Idealize.ShloMosaic.Lib.Writes

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table word of sorted position `8 k4 + p` of block `k3`. -/
def tw (c : Dev nD) (k3 : Fin k0_t3_loop.trips) (k4 : Fin k0_t4_loop.trips) (ft : CBuf (F := F) c sT) (p : Fin 8) : BitVec 32 :=
  sT.view.readAt (Elt F) (Rect.unit (s := S16x128) (k0_off92 k3 k4 (BitVec.ofNat 32 p.val)) S1x1.size (Gen.k0_off92_inb k3 k4 p)).toLoadRect ft
    (Shape.Idx.first (show 0 < S1x1.numel by decide))

theorem tw_ok {c : Dev nD} {ft : CBuf (F := F) c sT} (hT : TabOk c ft) (k3 : Fin k0_t3_loop.trips) (k4 : Fin k0_t4_loop.trips) (p : Fin 8) :
    (tw c k3 k4 ft p).toNat + 22 ≤ 45056 := hT _ _

/-- Rows `k … k + n` of the half-words past the row `w`. -/
def ldm (c : Dev nD) (fm : CBuf (F := F) c vM) (w : BitVec 32) (hw : w.toNat + 22 ≤ 45056) (k n : ℕ) (hk : k + n ≤ 22) :
    IVec ⟨2, ![n, 128]⟩ 32 :=
  vM.view.readAt (Elt F) (Rect.unit (s := S45056x128) (![(Scalar.indexCast (Scalar.addi w (BitVec.ofNat 32 k)) : Index).toNat, 0])
    (![n, 128]) (rows_inb hw k n hk)).toLoadRect fm

/-- The low nibbles of `lo`, and the low nibbles of `hi` placed at the high ones. -/
def vp4 {s : Shape} (lo hi : IVec s 32) : IVec s 32 :=
  ori (andi lo (broadcast s 252645135#32)) (shli (andi hi (broadcast s 252645135#32)) (broadcast s 4#32))

/-- The nibble of the sorted tile that byte `b` takes as its low (`h = 0`) or high (`h = 1`) half. -/
def order (b : Fin 4) (h : Fin 2) : Fin 8 := ⟨4 * (b.val % 2) + 2 * h.val + b.val / 2, by omega⟩

/-- The four words of group rows `k … k + n` before the byte transpose: byte `b`'s nibbles joined. -/
def gx (c : Dev nD) (k3 : Fin k0_t3_loop.trips) (k4 : Fin k0_t4_loop.trips) (fm : CBuf (F := F) c vM) (ft : CBuf (F := F) c sT)
    (hT : TabOk c ft) (k n : ℕ) (hk : k + n ≤ 22) (b : Fin 4) : IVec ⟨2, ![n, 128]⟩ 32 :=
  vp4 (ldm c fm (tw c k3 k4 ft (order b 0)) (tw_ok hT k3 k4 _) k n hk) (ldm c fm (tw c k3 k4 ft (order b 1)) (tw_ok hT k3 k4 _) k n hk)

/-- The output words of those rows for column block `i` of the group. -/
def gy (c : Dev nD) (k3 : Fin k0_t3_loop.trips) (k4 : Fin k0_t4_loop.trips) (fm : CBuf (F := F) c vM) (ft : CBuf (F := F) c sT)
    (hT : TabOk c ft) (k n : ℕ) (hk : k + n ≤ 22) (i : Fin 4) : IVec ⟨2, ![n, 128]⟩ 32 :=
  vbt i (gx c k3 k4 fm ft hT k n hk 0) (gx c k3 k4 fm ft hT k n hk 1) (gx c k3 k4 fm ft hT k n hk 2) (gx c k3 k4 fm ft hT k n hk 3)

theorem off101_eq : ∀ (k3 : Fin k0_t3_loop.trips) (k4 : Fin k0_t4_loop.trips) (a : Fin 2) (i : Fin 4),
    k0_off101 k3 k4 (BitVec.ofNat 32 (16 * a.val + i.val / 2)) (BitVec.ofNat 32 (i.val % 2))
      = ![1452 * k3.val + 33 * (16 * a.val + i.val / 2) + 2 * k4.val + i.val % 2, 0] := by decide +kernel

theorem off117_eq : ∀ (k3 : Fin k0_t3_loop.trips) (k4 : Fin k0_t4_loop.trips) (i : Fin 4),
    k0_off117 k3 k4 (BitVec.ofNat 32 (32 + i.val / 2)) (BitVec.ofNat 32 (i.val % 2))
      = ![1452 * k3.val + 33 * (32 + i.val / 2) + 2 * k4.val + i.val % 2, 0] := by decide +kernel

/-- The rows of the output buffer that a store of the first two groups covers. -/
def gRect8 (k3 : Fin k0_t3_loop.trips) (k4 : Fin k0_t4_loop.trips) (a : Fin 2) (i : Fin 4) : Rect S23232x128 :=
  ⟨⟨k0_off101 k3 k4 (BitVec.ofNat 32 (16 * a.val + i.val / 2)) (BitVec.ofNat 32 (i.val % 2)), S8x128.size, ![66, 1], by
    rw [off101_eq]
    have h3 : k3.val < 16 := k3.isLt
    have h4 : k4.val < 16 := k4.isLt
    intro x
    fin_cases x
    · right; show 1452 * k3.val + 33 * (16 * a.val + i.val / 2) + 2 * k4.val + i.val % 2 + 66 * (8 - 1) < 23232
      omega
    · right; show 0 + 1 * (128 - 1) < 128
      omega⟩, Gen.spos_66_1⟩

/-- The rows of the output buffer that a store of the last group covers. -/
def gRect6 (k3 : Fin k0_t3_loop.trips) (k4 : Fin k0_t4_loop.trips) (i : Fin 4) : Rect S23232x128 :=
  ⟨⟨k0_off117 k3 k4 (BitVec.ofNat 32 (32 + i.val / 2)) (BitVec.ofNat 32 (i.val % 2)), S6x128.size, ![66, 1], by
    rw [off117_eq]
    have h3 : k3.val < 16 := k3.isLt
    have h4 : k4.val < 16 := k4.isLt
    intro x
    fin_cases x
    · right; show 1452 * k3.val + 33 * (32 + i.val / 2) + 2 * k4.val + i.val % 2 + 66 * (6 - 1) < 23232
      omega
    · right; show 0 + 1 * (128 - 1) < 128
      omega⟩, Gen.spos_66_1⟩

/-- The stores of the trip, the last first. -/
def gPiece8 (c : Dev nD) (k3 : Fin k0_t3_loop.trips) (k4 : Fin k0_t4_loop.trips) (fm : CBuf (F := F) c vM) (ft : CBuf (F := F) c sT)
    (hT : TabOk c ft) (a : Fin 2) (i : Fin 4) : View.Piece (Elt F) S23232x128 .i32 :=
  ⟨gRect8 k3 k4 a i, shapeCast S8x128 (gy (F := F) c k3 k4 fm ft hT (8 * a.val) 8 (by omega) i) Gen.shapeCasts_S8x128_S8x128⟩
def gPiece6 (c : Dev nD) (k3 : Fin k0_t3_loop.trips) (k4 : Fin k0_t4_loop.trips) (fm : CBuf (F := F) c vM) (ft : CBuf (F := F) c sT)
    (hT : TabOk c ft) (i : Fin 4) : View.Piece (Elt F) S23232x128 .i32 :=
  ⟨gRect6 k3 k4 i, shapeCast S6x128 (gy (F := F) c k3 k4 fm ft hT 16 6 (by omega) i) Gen.shapeCasts_S6x128_S6x128⟩
def gPieces (c : Dev nD) (k3 : Fin k0_t3_loop.trips) (k4 : Fin k0_t4_loop.trips) (fm : CBuf (F := F) c vM) (ft : CBuf (F := F) c sT)
    (hT : TabOk c ft) : List (View.Piece (Elt F) S23232x128 .i32) :=
  ((List.finRange 4).reverse.map fun i => gPiece6 c k3 k4 fm ft hT i)
    ++ (List.finRange 2).reverse.flatMap fun a => (List.finRange 4).reverse.map fun i => gPiece8 c k3 k4 fm ft hT a i

theorem gatherRun_eq (c : Dev nD) (v481 v482 : IVec S16x128 32) (k3 : Fin k0_t3_loop.trips) (v765 : BitVec 32) (k4 : Fin k0_t4_loop.trips)
    (fm : CBuf (F := F) c vM) (ft : CBuf (F := F) c sT) (hT : TabOk c ft) (f : CBuf (F := F) c vO) :
    (gatherRun (F := F) c v481 v482 k3 v765 k4 fm ft hT).1 f = vO2.view.writes (Elt F) f (gPieces c k3 k4 fm ft hT) := by
  rfl

end Cert.KernelIdeal.Hand

end
-- ==== Proof.SplitRun.lean ====
module

public import proofs.«01_k».proof.Proof.Common

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev t2b (v481 v482 : IVec S16x128 32) (k1 : Fin k0_t1_loop.trips) (v765 : BitVec 32) :=
  Gen.k0_t2_body (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12 v481 v482 k1 v765

theorem off2_eq : ∀ k : Fin k0_t1_loop.trips, k0_off2 k = ![16 * k.val, 0] := by decide +kernel

theorem qDst_set (k : Fin k0_t1_loop.trips) :
    (qDst k).view.set = (Rect.unit (s := S256x11264) (k0_off2 k) S16x11264.size (Gen.k0_off2_inb k)).set :=
  View.set_slice_whole _ _

/-- A load of eight rows of chunk `k` reads elements of the chunk. -/
theorem load_subset (k1 : Fin k0_t1_loop.trips) (k2 : Fin k0_t2_loop.trips) (o : Fin 2 → ℕ)
    (inb : ∀ a, o a + S8x128.size a ≤ S256x11264.size a) (ho : o 0 = 16 * k1.val + 8 * k2.val) :
    LE.le (α := Finset vQ.view.ty.Idx) (vQ.view.setOn (Rect.unit (s := S256x11264) o S8x128.size inb).toLoadRect.set) (qDst k1).view.set := by
  have h2 : k2.val < 2 := k2.isLt
  have i1 := inb 1
  rw [qDst_set]
  intro y hy
  have hy' : y ∈ (Rect.unit (s := S256x11264) o S8x128.size inb).set := by
    simp only [View.setOn, Finset.mem_map] at hy
    obtain ⟨a, ha, rfl⟩ := hy
    exact ha
  rw [Rect.mem_set_unit] at hy' ⊢
  intro a
  have := hy' a
  rw [off2_eq]
  fin_cases a
  · have a0 : o 0 ≤ (y 0).val ∧ (y 0).val < o 0 + 8 := this
    show 16 * k1.val ≤ (y 0).val ∧ (y 0).val < 16 * k1.val + 16
    omega
  · have := (y 1).isLt
    exact ⟨Nat.zero_le _, by show (y 1).val < 0 + 11264; rw [Nat.zero_add]; exact this⟩

/-- One trip of the split loop, run with its chunk alone: the stores it makes, as a list. -/
def splitRun (c : Dev nD) (v481 v482 : IVec S16x128 32) (k1 : Fin k0_t1_loop.trips) (v765 : BitVec 32) (k2 : Fin k0_t2_loop.trips) (fq : CBuf (F := F) c vQ) :
   { L : List (View.Piece (Elt F) S45056x128 .i32) //
    ∀ (f : CBuf (F := F) c vM) (Q : Unit → sProp (MT nD τ sig Unit (Elt F) ℕ (UU nD τ) ℕ)),
     iprop(ptw c (qDst k1) fq ∗ pt c vM f ∗ (iprop(ptw c (qDst k1) fq ∗ pt c vM (vM.view.writes (Elt F) f L)) -∗ Q ()))
      ⊢ wp frame (wpE (defs₀ (F := F)) 𝒱₀ (c : Thread nD τ) none) Set.univ (t2b (F := F) v481 v482 k1 v765 k2 ()) Q } := by
  refine ⟨?_, fun f Q => ?run⟩
  case run =>
    unfold t2b Gen.k0_t2_body
    have hS := load_subset k1 k2
    iintro ⟨HQ, HM, Hk⟩
    sl_exec_parts
    sl_step
    iapply Hk
    isplitl [HQ]; · iexact HQ
    iexact HM

end Cert.KernelIdeal.Hand

end
-- ==== Proof.Split.lean ====
/- What one row tile of the split loop leaves in the scratch buffer of half-words: the stores of a trip as one list, in closed form. -/
module

public import proofs.«01_k».proof.Proof.SplitRun
public import proofs.«01_k».proof.Proof.ByteTranspose
public import Idealize.ShloMosaic.Lib.Writes

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The loads and stores of a trip -/

/-- The offsets of a trip's 88 loads: column block `n` of the tile's eight rows. -/
def colOff (k1 : Fin k0_t1_loop.trips) (k2 : Fin k0_t2_loop.trips) (n : ℕ) : Fin 2 → ℕ :=
  [k0_off3 k1 k2, k0_off4 k1 k2, k0_off5 k1 k2, k0_off6 k1 k2, k0_off8 k1 k2, k0_off9 k1 k2, k0_off10 k1 k2, k0_off11 k1 k2,
   k0_off12 k1 k2, k0_off13 k1 k2, k0_off14 k1 k2, k0_off15 k1 k2, k0_off16 k1 k2, k0_off17 k1 k2, k0_off18 k1 k2, k0_off19 k1 k2,
   k0_off20 k1 k2, k0_off21 k1 k2, k0_off22 k1 k2, k0_off23 k1 k2, k0_off24 k1 k2, k0_off25 k1 k2, k0_off26 k1 k2, k0_off27 k1 k2,
   k0_off28 k1 k2, k0_off29 k1 k2, k0_off30 k1 k2, k0_off31 k1 k2, k0_off32 k1 k2, k0_off33 k1 k2, k0_off34 k1 k2, k0_off35 k1 k2,
   k0_off36 k1 k2, k0_off37 k1 k2, k0_off38 k1 k2, k0_off39 k1 k2, k0_off40 k1 k2, k0_off41 k1 k2, k0_off42 k1 k2, k0_off43 k1 k2,
   k0_off44 k1 k2, k0_off45 k1 k2, k0_off46 k1 k2, k0_off47 k1 k2, k0_off48 k1 k2, k0_off49 k1 k2, k0_off50 k1 k2, k0_off51 k1 k2,
   k0_off52 k1 k2, k0_off53 k1 k2, k0_off54 k1 k2, k0_off55 k1 k2, k0_off56 k1 k2, k0_off57 k1 k2, k0_off58 k1 k2, k0_off59 k1 k2,
   k0_off60 k1 k2, k0_off61 k1 k2, k0_off62 k1 k2, k0_off63 k1 k2, k0_off64 k1 k2, k0_off65 k1 k2, k0_off66 k1 k2, k0_off67 k1 k2,
   k0_off68 k1 k2, k0_off69 k1 k2, k0_off70 k1 k2, k0_off71 k1 k2, k0_off72 k1 k2, k0_off73 k1 k2, k0_off74 k1 k2, k0_off75 k1 k2,
   k0_off76 k1 k2, k0_off77 k1 k2, k0_off78 k1 k2, k0_off79 k1 k2, k0_off80 k1 k2, k0_off81 k1 k2, k0_off82 k1 k2, k0_off83 k1 k2,
   k0_off84 k1 k2, k0_off85 k1 k2, k0_off86 k1 k2, k0_off87 k1 k2, k0_off88 k1 k2, k0_off89 k1 k2, k0_off90 k1 k2, k0_off91 k1 k2].getD n (fun _ => 0)

theorem colOff_eq : ∀ (k1 : Fin k0_t1_loop.trips) (k2 : Fin k0_t2_loop.trips) (n : Fin 88),
    colOff k1 k2 n = ![16 * k1.val + 8 * k2.val, 128 * n.val] := by decide +kernel

theorem colOff_inb : ∀ (k1 : Fin k0_t1_loop.trips) (k2 : Fin k0_t2_loop.trips) (n : Fin 88),
    ∀ a, colOff k1 k2 n a + S8x128.size a ≤ S256x11264.size a := by decide +kernel

/-- Column block `n` of the tile. -/
def ldq (c : Dev nD) (k1 : Fin k0_t1_loop.trips) (k2 : Fin k0_t2_loop.trips) (fq : CBuf (F := F) c vQ) (n : Fin 88) : IVec S8x128 32 :=
  vQ.view.readAt (Elt F) (Rect.unit (s := S256x11264) (colOff k1 k2 n) S8x128.size (colOff_inb k1 k2 n)).toLoadRect fq

/-- The rows a store of the trip covers: every 22nd row, from `22 * (256 n + row) + g`. -/
def splitRect (k1 : Fin k0_t1_loop.trips) (k2 : Fin k0_t2_loop.trips) (n : Fin 8) (g : Fin 22) : Rect S45056x128 :=
  ⟨⟨k0_off7 k1 k2 (BitVec.ofNat 32 (256 * n.val)) (BitVec.ofNat 32 g.val), S8x128.size, ![22, 1], Gen.k0_off7_inb k1 k2 n g⟩, Gen.spos_22_1⟩

/-- One store of the trip: nibble `n` of column group `g`. -/
def splitPiece (c : Dev nD) (k1 : Fin k0_t1_loop.trips) (k2 : Fin k0_t2_loop.trips) (fq : CBuf (F := F) c vQ) (g : Fin 22) (n : Fin 8) :
    View.Piece (Elt F) S45056x128 .i32 :=
  ⟨splitRect k1 k2 n g, shapeCast S8x128 (vsplit n (ldq (F := F) c k1 k2 fq ⟨4 * g.val, by omega⟩) (ldq c k1 k2 fq ⟨4 * g.val + 1, by omega⟩)
    (ldq c k1 k2 fq ⟨4 * g.val + 2, by omega⟩) (ldq c k1 k2 fq ⟨4 * g.val + 3, by omega⟩)) Gen.shapeCasts_S8x128_S8x128⟩

/-- All the stores of the trip, the last first. -/
def splitPieces (c : Dev nD) (k1 : Fin k0_t1_loop.trips) (k2 : Fin k0_t2_loop.trips) (fq : CBuf (F := F) c vQ) :
    List (View.Piece (Elt F) S45056x128 .i32) :=
  (List.finRange 22).reverse.flatMap fun g => (List.finRange 8).reverse.map fun n => splitPiece c k1 k2 fq g n

theorem splitRun_eq (c : Dev nD) (v481 v482 : IVec S16x128 32) (k1 : Fin k0_t1_loop.trips) (v765 : BitVec 32) (k2 : Fin k0_t2_loop.trips)
    (fq : CBuf (F := F) c vQ) : (splitRun (F := F) c v481 v482 k1 v765 k2 fq).1 = splitPieces c k1 k2 fq := by
  rfl

end Cert.KernelIdeal.Hand

end
-- ==== Proof.SplitValue.lean ====
/- One row tile of the split loop in closed form: the tile's rows of the half-word buffer get the split words, the others keep theirs. -/
module

public import proofs.«01_k».proof.Proof.Split
public import Idealize.ShloMosaic.Lib.ValueIdxCore
public import Idealize.ShloMosaic.Lib.Pipeline.Value

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The packed word at row `r`, column `128 b + l`. -/
def qAt (fq : S256x11264.Idx → BitVec 32) (r : Fin 256) (b : Fin 88) (l : Fin 128) : BitVec 32 :=
  fq (ix2 r ⟨128 * b.val + l.val, by omega⟩)

/-- The half-words of nibble `n`, row `r`, column group `g`, lane `l`. -/
def mAt (fq : S256x11264.Idx → BitVec 32) (n : Fin 8) (r : Fin 256) (g : Fin 22) (l : Fin 128) : BitVec 32 :=
  splitWord n (qAt fq r ⟨4 * g.val, by omega⟩ l) (qAt fq r ⟨4 * g.val + 1, by omega⟩ l) (qAt fq r ⟨4 * g.val + 2, by omega⟩ l)
    (qAt fq r ⟨4 * g.val + 3, by omega⟩ l)

/-- What the split loop leaves: row `(256 n + r) * 22 + g` holds nibble `n` of row `r`, column group `g`. -/
def mGoal (fq : S256x11264.Idx → BitVec 32) (y : S45056x128.Idx) : BitVec 32 :=
  mAt fq ⟨(y 0).val / 22 / 256, by have : (y 0).val < 45056 := (y 0).isLt; omega⟩ ⟨(y 0).val / 22 % 256, by omega⟩ ⟨(y 0).val % 22, by omega⟩ (y 1)

theorem ldq_apply (c : Dev nD) (k1 : Fin k0_t1_loop.trips) (k2 : Fin k0_t2_loop.trips) (fq : CBuf (F := F) c vQ) (n : Fin 88)
    (x : S8x128.Idx) (r : Fin 256) (hr : r.val = 16 * k1.val + 8 * k2.val + (x 0).val) :
    ldq c k1 k2 fq n x = qAt fq r n (x 1) := by
  have e : (Rect.unit (s := S256x11264) (colOff k1 k2 n) S8x128.size (colOff_inb k1 k2 n)).toLoadRect.idx x
      = ix2 r ⟨128 * n.val + (x 1).val, by have : (x 1).val < 128 := (x 1).isLt; omega⟩ := by
    funext a
    apply Fin.ext
    show colOff k1 k2 n a + 1 * (x a).val = _
    rw [colOff_eq]
    fin_cases a
    · show 16 * k1.val + 8 * k2.val + 1 * (x 0).val = r.val
      omega
    · show 128 * n.val + 1 * (x 1).val = 128 * n.val + (x 1).val
      omega
  show fq ((Rect.unit (s := S256x11264) (colOff k1 k2 n) S8x128.size (colOff_inb k1 k2 n)).toLoadRect.idx x) = _
  rw [e]
  rfl

theorem splitRect_off (k1 : Fin k0_t1_loop.trips) (k2 : Fin k0_t2_loop.trips) (n : Fin 8) (g : Fin 22) :
    k0_off7 k1 k2 (BitVec.ofNat 32 (256 * n.val)) (BitVec.ofNat 32 g.val) = ![22 * (256 * n.val + 16 * k1.val + 8 * k2.val) + g.val, 0] := by
  have := Gen.k0_off7_eq k1 k2 n g
  rw [this]
  congr 1
  omega

/-- One store's payload is the closed form at the rows the store covers. -/
theorem splitPiece_eq (c : Dev nD) (k1 : Fin k0_t1_loop.trips) (k2 : Fin k0_t2_loop.trips) (fq : CBuf (F := F) c vQ) (g : Fin 22) (n : Fin 8)
    (x : S8x128.Idx) : (splitPiece c k1 k2 fq g n).2 x = mGoal fq ((splitRect k1 k2 n g).emb x) := by
  have h1 : k1.val < 16 := k1.isLt
  have h2 : k2.val < 2 := k2.isLt
  have x0 : (x 0).val < 8 := (x 0).isLt
  have e0 : ((splitRect k1 k2 n g).emb x 0).val = 22 * (256 * n.val + 16 * k1.val + 8 * k2.val) + g.val + 22 * (x 0).val := by
    show k0_off7 k1 k2 (BitVec.ofNat 32 (256 * n.val)) (BitVec.ofNat 32 g.val) 0 + 22 * (x 0).val = _
    rw [splitRect_off]; rfl
  have e1 : ((splitRect k1 k2 n g).emb x 1) = x 1 := by
    apply Fin.ext
    show k0_off7 k1 k2 (BitVec.ofNat 32 (256 * n.val)) (BitVec.ofNat 32 g.val) 1 + 1 * (x 1).val = _
    rw [splitRect_off]
    show 0 + 1 * (x 1).val = (x 1).val
    omega
  have p : (splitPiece c k1 k2 fq g n).2 x = vsplit n (ldq (F := F) c k1 k2 fq ⟨4 * g.val, by omega⟩) (ldq c k1 k2 fq ⟨4 * g.val + 1, by omega⟩)
      (ldq c k1 k2 fq ⟨4 * g.val + 2, by omega⟩) (ldq c k1 k2 fq ⟨4 * g.val + 3, by omega⟩) x :=
    congrFun (shapeCast_self _ _) x
  have hr : (⟨16 * k1.val + 8 * k2.val + (x 0).val, by omega⟩ : Fin 256).val = 16 * k1.val + 8 * k2.val + (x 0).val := rfl
  rw [p, vsplit_apply, ldq_apply c k1 k2 fq _ x _ hr, ldq_apply c k1 k2 fq _ x _ hr, ldq_apply c k1 k2 fq _ x _ hr, ldq_apply c k1 k2 fq _ x _ hr]
  have a0 : ((splitRect k1 k2 n g).emb x 0).val / 22 / 256 = n.val := by omega
  have a1 : ((splitRect k1 k2 n g).emb x 0).val / 22 % 256 = 16 * k1.val + 8 * k2.val + (x 0).val := by omega
  have a2 : ((splitRect k1 k2 n g).emb x 0).val % 22 = g.val := by omega
  show mAt fq n _ g (x 1) = mAt fq _ _ _ _
  congr 1
  · exact Fin.ext a0.symm
  · exact Fin.ext a1.symm
  · exact Fin.ext a2.symm
  · exact e1.symm

theorem mem_splitPieces (c : Dev nD) (k1 : Fin k0_t1_loop.trips) (k2 : Fin k0_t2_loop.trips) (fq : CBuf (F := F) c vQ)
    (p : View.Piece (Elt F) S45056x128 .i32) : p ∈ splitPieces c k1 k2 fq ↔ ∃ g n, splitPiece c k1 k2 fq g n = p := by
  simp [splitPieces]

theorem mem_splitRect (k1 : Fin k0_t1_loop.trips) (k2 : Fin k0_t2_loop.trips) (n : Fin 8) (g : Fin 22) (y : S45056x128.Idx) (j : ℕ) (hj : j < 8)
    (h : (y 0).val = 22 * (256 * n.val + 16 * k1.val + 8 * k2.val) + g.val + 22 * j) : y ∈ (splitRect k1 k2 n g).set := by
  refine (LoadRect.mem_set (splitRect k1 k2 n g).toLoadRect).mpr fun a => ?_
  fin_cases a
  · refine ⟨j, hj, ?_⟩
    show (y 0).val = k0_off7 k1 k2 (BitVec.ofNat 32 (256 * n.val)) (BitVec.ofNat 32 g.val) 0 + 22 * j
    rw [splitRect_off]
    exact h
  · refine ⟨(y 1).val, (y 1).isLt, ?_⟩
    show (y 1).val = k0_off7 k1 k2 (BitVec.ofNat 32 (256 * n.val)) (BitVec.ofNat 32 g.val) 1 + 1 * (y 1).val
    rw [splitRect_off]
    show (y 1).val = 0 + 1 * (y 1).val
    omega

/-- A trip puts the tile's rows at the closed form and keeps the rows that had it. -/
theorem split_trip (c : Dev nD) (k1 : Fin k0_t1_loop.trips) (k2 : Fin k0_t2_loop.trips) (fq : CBuf (F := F) c vQ) (f : CBuf (F := F) c vM)
    (hf : ∀ y : S45056x128.Idx, (y 0).val / 22 % 256 < 16 * k1.val + 8 * k2.val → f y = mGoal fq y)
    (y : S45056x128.Idx) (hy : (y 0).val / 22 % 256 < 16 * k1.val + 8 * (k2.val + 1)) :
    (vM.view.writes (Elt F) f (splitPieces c k1 k2 fq) : CBuf (F := F) c vM) y = mGoal fq y := by
  have hy0 : (y 0).val < 45056 := (y 0).isLt
  by_cases h : ∃ p ∈ splitPieces c k1 k2 fq, y ∈ p.1.set
  · refine View.read_writes_apply_of_pieces (v := vM.view) (f := f) (mGoal fq) _ ?_ y h
    intro p hp x
    obtain ⟨g, n, rfl⟩ := (mem_splitPieces c k1 k2 fq p).mp hp
    exact splitPiece_eq c k1 k2 fq g n x
  · have h' : ∀ p ∈ splitPieces c k1 k2 fq, y ∉ p.1.set := fun p hp hm => h ⟨p, hp, hm⟩
    have hr : (vM.view.writes (Elt F) f (splitPieces c k1 k2 fq) : CBuf (F := F) c vM) y = f y :=
      View.read_writes_apply_of_forall_not_mem (v := vM.view) (f := f) y _ h'
    rw [hr]
    apply hf
    by_contra hlt
    obtain ⟨n, hn⟩ : ∃ n : Fin 8, n.val = (y 0).val / 22 / 256 := ⟨⟨(y 0).val / 22 / 256, by omega⟩, rfl⟩
    obtain ⟨g, hg⟩ : ∃ g : Fin 22, g.val = (y 0).val % 22 := ⟨⟨(y 0).val % 22, by omega⟩, rfl⟩
    have hj : (y 0).val / 22 % 256 - (16 * k1.val + 8 * k2.val) < 8 := by omega
    have hy' : (y 0).val = 22 * (256 * n.val + 16 * k1.val + 8 * k2.val) + g.val + 22 * ((y 0).val / 22 % 256 - (16 * k1.val + 8 * k2.val)) := by omega
    have hm := mem_splitRect k1 k2 n g y _ hj hy'
    exact h' _ ((mem_splitPieces c k1 k2 fq _).mpr ⟨g, n, rfl⟩) hm

end Cert.KernelIdeal.Hand

end
-- ==== Proof.GatherValue.lean ====
/- One trip of the gather loop in closed form: the trip's rows of its block of the output buffer get the output words, the others keep theirs. -/
module

public import proofs.«01_k».proof.Proof.Gather
public import proofs.«01_k».proof.Proof.SplitValue

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `n`, lane `l` of the half-words; zero past the end. -/
def rowAt (fm : S45056x128.Idx → BitVec 32) (n : ℕ) (l : Fin 128) : BitVec 32 :=
  if h : n < 45056 then fm (ix2 ⟨n, h⟩ l) else 0

/-- The table word of sorted position `8 r + p` of block `kb`. -/
def tabAt (ft : S16x128.Idx → BitVec 32) (kb r : Fin 16) (p : Fin 8) : BitVec 32 := ft (ix2 kb ⟨8 * r.val + p.val, by omega⟩)

/-- Byte row `b` of the tile before the transpose: two nibbles joined, for column group `g`. -/
def xAt (fm : S45056x128.Idx → BitVec 32) (ft : S16x128.Idx → BitVec 32) (kb r : Fin 16) (g : Fin 22) (l : Fin 128) (b : Fin 4) : BitVec 32 :=
  p4 (rowAt fm ((tabAt ft kb r (order b 0)).toNat + g.val) l) (rowAt fm ((tabAt ft kb r (order b 1)).toNat + g.val) l)

/-- The output word of block `kb`, tile `r`, column group `g`, column block `i` of the group, lane `l`. -/
def oAt (fm : S45056x128.Idx → BitVec 32) (ft : S16x128.Idx → BitVec 32) (kb r : Fin 16) (g : Fin 22) (i : Fin 4) (l : Fin 128) : BitVec 32 :=
  bt i (xAt fm ft kb r g l 0) (xAt fm ft kb r g l 1) (xAt fm ft kb r g l 2) (xAt fm ft kb r g l 3)

/-- What the gather loop leaves, by the row of the output buffer. -/
def oGoal (fm : S45056x128.Idx → BitVec 32) (ft : S16x128.Idx → BitVec 32) (y : S23232x128.Idx) : BitVec 32 :=
  oAt fm ft ⟨(y 0).val / 1452, by have : (y 0).val < 23232 := (y 0).isLt; omega⟩ ⟨(y 0).val % 33 / 2 % 16, by omega⟩
    ⟨(y 0).val % 1452 / 33 / 2, by omega⟩ ⟨2 * ((y 0).val % 1452 / 33 % 2) + (y 0).val % 33 % 2, by omega⟩ (y 1)

theorem tw_eq (c : Dev nD) (k3 : Fin k0_t3_loop.trips) (k4 : Fin k0_t4_loop.trips) (ft : CBuf (F := F) c sT) (p : Fin 8) :
    tw c k3 k4 ft p = tabAt ft k3 k4 p := by
  have h4 : k4.val < 16 := k4.isLt
  have e : (Rect.unit (s := S16x128) (k0_off92 k3 k4 (BitVec.ofNat 32 p.val)) S1x1.size (Gen.k0_off92_inb k3 k4 p)).toLoadRect.idx
      (Shape.Idx.first (show 0 < S1x1.numel by decide)) = ix2 (k3 : Fin 16) ⟨8 * k4.val + p.val, by omega⟩ := by
    funext a
    apply Fin.ext
    show k0_off92 k3 k4 (BitVec.ofNat 32 p.val) a + 1 * ((Shape.Idx.first (show 0 < S1x1.numel by decide)) a).val = _
    rw [Gen.k0_off92_eq]
    fin_cases a <;> rfl
  show ft ((Rect.unit (s := S16x128) (k0_off92 k3 k4 (BitVec.ofNat 32 p.val)) S1x1.size (Gen.k0_off92_inb k3 k4 p)).toLoadRect.idx
      (Shape.Idx.first (show 0 < S1x1.numel by decide))) = _
  rw [e]
  rfl

theorem ldm_apply (c : Dev nD) (fm : CBuf (F := F) c vM) (w : BitVec 32) (hw : w.toNat + 22 ≤ 45056) (k n : ℕ) (hk : k + n ≤ 22)
    (x : (⟨2, ![n, 128]⟩ : Shape).Idx) : ldm c fm w hw k n hk x = rowAt fm (w.toNat + (k + (x 0).val)) (x 1) := by
  have x0 : (x 0).val < n := (x 0).isLt
  have hl : w.toNat + (k + (x 0).val) < 45056 := by omega
  have ew : (Scalar.indexCast (Scalar.addi w (BitVec.ofNat 32 k)) : Index).toNat = w.toNat + k := by
    show (w + BitVec.ofNat 32 k).toNat = _
    simp only [BitVec.toNat_add, BitVec.toNat_ofNat]
    omega
  have e : (Rect.unit (s := S45056x128) (![(Scalar.indexCast (Scalar.addi w (BitVec.ofNat 32 k)) : Index).toNat, 0])
    (![n, 128]) (rows_inb hw k n hk)).toLoadRect.idx x = ix2 ⟨w.toNat + (k + (x 0).val), hl⟩ (x 1) := by
    funext a
    apply Fin.ext
    fin_cases a
    · show (Scalar.indexCast (Scalar.addi w (BitVec.ofNat 32 k)) : Index).toNat + 1 * (x 0).val = w.toNat + (k + (x 0).val)
      omega
    · show 0 + 1 * (x 1).val = (x 1).val
      omega
  show fm ((Rect.unit (s := S45056x128) (![(Scalar.indexCast (Scalar.addi w (BitVec.ofNat 32 k)) : Index).toNat, 0])
    (![n, 128]) (rows_inb hw k n hk)).toLoadRect.idx x) = _
  rw [e]
  unfold rowAt
  rw [dif_pos hl]
  rfl

theorem gx_apply (c : Dev nD) (k3 : Fin k0_t3_loop.trips) (k4 : Fin k0_t4_loop.trips) (fm : CBuf (F := F) c vM) (ft : CBuf (F := F) c sT)
    (hT : TabOk c ft) (k n : ℕ) (hk : k + n ≤ 22) (b : Fin 4) (x : (⟨2, ![n, 128]⟩ : Shape).Idx) (g : Fin 22) (hg : g.val = k + (x 0).val) :
    gx c k3 k4 fm ft hT k n hk b x = xAt fm ft k3 k4 g (x 1) b := by
  show p4 (ldm c fm (tw c k3 k4 ft (order b 0)) (tw_ok hT k3 k4 _) k n hk x) (ldm c fm (tw c k3 k4 ft (order b 1)) (tw_ok hT k3 k4 _) k n hk x) = _
  rw [ldm_apply, ldm_apply, tw_eq, tw_eq, ← hg]
  rfl

theorem gy_apply (c : Dev nD) (k3 : Fin k0_t3_loop.trips) (k4 : Fin k0_t4_loop.trips) (fm : CBuf (F := F) c vM) (ft : CBuf (F := F) c sT)
    (hT : TabOk c ft) (k n : ℕ) (hk : k + n ≤ 22) (i : Fin 4) (x : (⟨2, ![n, 128]⟩ : Shape).Idx) (g : Fin 22) (hg : g.val = k + (x 0).val) :
    gy c k3 k4 fm ft hT k n hk i x = oAt fm ft k3 k4 g i (x 1) := by
  show vbt i _ _ _ _ x = _
  rw [vbt_apply, gx_apply c k3 k4 fm ft hT k n hk _ x g hg, gx_apply c k3 k4 fm ft hT k n hk _ x g hg, gx_apply c k3 k4 fm ft hT k n hk _ x g hg,
    gx_apply c k3 k4 fm ft hT k n hk _ x g hg]
  rfl

/-- The closed form at a row of block `k3`, given by its parts. -/
theorem oGoal_of (fm : S45056x128.Idx → BitVec 32) (ft : S16x128.Idx → BitVec 32) (y : S23232x128.Idx) (kb r : Fin 16) (g : Fin 22) (i : Fin 4) (l : Fin 128)
    (h : (y 0).val = 1452 * kb.val + 33 * (2 * g.val + i.val / 2) + 2 * r.val + i.val % 2) (hl : y 1 = l) : oGoal fm ft y = oAt fm ft kb r g i l := by
  have hr : r.val < 16 := r.isLt
  have hi : i.val < 4 := i.isLt
  have hg : g.val < 22 := g.isLt
  have h33 : (y 0).val % 33 = 2 * r.val + i.val % 2 := by omega
  have hkb : (y 0).val / 1452 = kb.val := by omega
  have hnb : (y 0).val % 1452 / 33 = 2 * g.val + i.val / 2 := by omega
  unfold oGoal
  congr 1
  · exact Fin.ext hkb
  · apply Fin.ext; show (y 0).val % 33 / 2 % 16 = r.val; rw [h33]; omega
  · apply Fin.ext; show (y 0).val % 1452 / 33 / 2 = g.val; rw [hnb]; omega
  · apply Fin.ext; show 2 * ((y 0).val % 1452 / 33 % 2) + (y 0).val % 33 % 2 = i.val; rw [h33, hnb]; omega

theorem gPiece8_eq (c : Dev nD) (k3 : Fin k0_t3_loop.trips) (k4 : Fin k0_t4_loop.trips) (fm : CBuf (F := F) c vM) (ft : CBuf (F := F) c sT)
    (hT : TabOk c ft) (a : Fin 2) (i : Fin 4) (x : S8x128.Idx) : (gPiece8 c k3 k4 fm ft hT a i).2 x = oGoal fm ft ((gRect8 k3 k4 a i).emb x) := by
  have x0 : (x 0).val < 8 := (x 0).isLt
  have e0 : ((gRect8 k3 k4 a i).emb x 0).val = 1452 * k3.val + 33 * (16 * a.val + i.val / 2) + 2 * k4.val + i.val % 2 + 66 * (x 0).val := by
    show k0_off101 k3 k4 (BitVec.ofNat 32 (16 * a.val + i.val / 2)) (BitVec.ofNat 32 (i.val % 2)) 0 + 66 * (x 0).val = _
    rw [off101_eq]; rfl
  have e1 : ((gRect8 k3 k4 a i).emb x 1) = x 1 := by
    apply Fin.ext
    show k0_off101 k3 k4 (BitVec.ofNat 32 (16 * a.val + i.val / 2)) (BitVec.ofNat 32 (i.val % 2)) 1 + 1 * (x 1).val = _
    rw [off101_eq]
    show 0 + 1 * (x 1).val = (x 1).val
    omega
  have hg : 8 * a.val + (x 0).val < 22 := by omega
  have h := oGoal_of fm ft ((gRect8 k3 k4 a i).emb x) k3 k4 ⟨8 * a.val + (x 0).val, hg⟩ i (x 1)
    (by rw [e0]; show _ = 1452 * k3.val + 33 * (2 * (8 * a.val + (x 0).val) + i.val / 2) + 2 * k4.val + i.val % 2; omega) e1
  rw [h, ← gy_apply c k3 k4 fm ft hT (8 * a.val) 8 (by omega) i x ⟨8 * a.val + (x 0).val, hg⟩ rfl]
  exact congrFun (shapeCast_self _ _) x

theorem gPiece6_eq (c : Dev nD) (k3 : Fin k0_t3_loop.trips) (k4 : Fin k0_t4_loop.trips) (fm : CBuf (F := F) c vM) (ft : CBuf (F := F) c sT)
    (hT : TabOk c ft) (i : Fin 4) (x : S6x128.Idx) : (gPiece6 c k3 k4 fm ft hT i).2 x = oGoal fm ft ((gRect6 k3 k4 i).emb x) := by
  have x0 : (x 0).val < 6 := (x 0).isLt
  have e0 : ((gRect6 k3 k4 i).emb x 0).val = 1452 * k3.val + 33 * (32 + i.val / 2) + 2 * k4.val + i.val % 2 + 66 * (x 0).val := by
    show k0_off117 k3 k4 (BitVec.ofNat 32 (32 + i.val / 2)) (BitVec.ofNat 32 (i.val % 2)) 0 + 66 * (x 0).val = _
    rw [off117_eq]; rfl
  have e1 : ((gRect6 k3 k4 i).emb x 1) = x 1 := by
    apply Fin.ext
    show k0_off117 k3 k4 (BitVec.ofNat 32 (32 + i.val / 2)) (BitVec.ofNat 32 (i.val % 2)) 1 + 1 * (x 1).val = _
    rw [off117_eq]
    show 0 + 1 * (x 1).val = (x 1).val
    omega
  have hg : 16 + (x 0).val < 22 := by omega
  have h := oGoal_of fm ft ((gRect6 k3 k4 i).emb x) k3 k4 ⟨16 + (x 0).val, hg⟩ i (x 1)
    (by rw [e0]; show _ = 1452 * k3.val + 33 * (2 * (16 + (x 0).val) + i.val / 2) + 2 * k4.val + i.val % 2; omega) e1
  rw [h, ← gy_apply c k3 k4 fm ft hT 16 6 (by omega) i x ⟨16 + (x 0).val, hg⟩ rfl]
  exact congrFun (shapeCast_self _ _) x

theorem mem_gPieces (c : Dev nD) (k3 : Fin k0_t3_loop.trips) (k4 : Fin k0_t4_loop.trips) (fm : CBuf (F := F) c vM) (ft : CBuf (F := F) c sT)
    (hT : TabOk c ft) (p : View.Piece (Elt F) S23232x128 .i32) :
    p ∈ gPieces c k3 k4 fm ft hT ↔ (∃ i, gPiece6 c k3 k4 fm ft hT i = p) ∨ ∃ a i, gPiece8 c k3 k4 fm ft hT a i = p := by
  simp [gPieces]

theorem mem_gRect8 (k3 : Fin k0_t3_loop.trips) (k4 : Fin k0_t4_loop.trips) (a : Fin 2) (i : Fin 4) (y : S23232x128.Idx) (j : ℕ) (hj : j < 8)
    (h : (y 0).val = 1452 * k3.val + 33 * (16 * a.val + i.val / 2) + 2 * k4.val + i.val % 2 + 66 * j) : y ∈ (gRect8 k3 k4 a i).set := by
  refine (LoadRect.mem_set (gRect8 k3 k4 a i).toLoadRect).mpr fun b => ?_
  fin_cases b
  · refine ⟨j, hj, ?_⟩
    show (y 0).val = k0_off101 k3 k4 (BitVec.ofNat 32 (16 * a.val + i.val / 2)) (BitVec.ofNat 32 (i.val % 2)) 0 + 66 * j
    rw [off101_eq]
    exact h
  · refine ⟨(y 1).val, (y 1).isLt, ?_⟩
    show (y 1).val = k0_off101 k3 k4 (BitVec.ofNat 32 (16 * a.val + i.val / 2)) (BitVec.ofNat 32 (i.val % 2)) 1 + 1 * (y 1).val
    rw [off101_eq]
    show (y 1).val = 0 + 1 * (y 1).val
    omega

theorem mem_gRect6 (k3 : Fin k0_t3_loop.trips) (k4 : Fin k0_t4_loop.trips) (i : Fin 4) (y : S23232x128.Idx) (j : ℕ) (hj : j < 6)
    (h : (y 0).val = 1452 * k3.val + 33 * (32 + i.val / 2) + 2 * k4.val + i.val % 2 + 66 * j) : y ∈ (gRect6 k3 k4 i).set := by
  refine (LoadRect.mem_set (gRect6 k3 k4 i).toLoadRect).mpr fun b => ?_
  fin_cases b
  · refine ⟨j, hj, ?_⟩
    show (y 0).val = k0_off117 k3 k4 (BitVec.ofNat 32 (32 + i.val / 2)) (BitVec.ofNat 32 (i.val % 2)) 0 + 66 * j
    rw [off117_eq]
    exact h
  · refine ⟨(y 1).val, (y 1).isLt, ?_⟩
    show (y 1).val = k0_off117 k3 k4 (BitVec.ofNat 32 (32 + i.val / 2)) (BitVec.ofNat 32 (i.val % 2)) 1 + 1 * (y 1).val
    rw [off117_eq]
    show (y 1).val = 0 + 1 * (y 1).val
    omega

/-- A row of block `k3` in tile `k4` is covered by the trip's stores. -/
theorem gPieces_cover (c : Dev nD) (k3 : Fin k0_t3_loop.trips) (k4 : Fin k0_t4_loop.trips) (fm : CBuf (F := F) c vM) (ft : CBuf (F := F) c sT)
    (hT : TabOk c ft) (y : S23232x128.Idx) (hk : (y 0).val / 1452 = k3.val) (hw : (y 0).val % 33 / 2 = k4.val) :
    ∃ p ∈ gPieces c k3 k4 fm ft hT, y ∈ p.1.set := by
  have h4 : k4.val < 16 := k4.isLt
  obtain ⟨nb, hnb⟩ : ∃ nb, nb = (y 0).val % 1452 / 33 := ⟨_, rfl⟩
  obtain ⟨i, hi⟩ : ∃ i : Fin 4, i.val = 2 * (nb % 2) + (y 0).val % 33 % 2 := ⟨⟨2 * (nb % 2) + (y 0).val % 33 % 2, by omega⟩, rfl⟩
  by_cases h : nb < 32
  · obtain ⟨a, ha⟩ : ∃ a : Fin 2, a.val = nb / 16 := ⟨⟨nb / 16, by omega⟩, rfl⟩
    have hj : nb % 16 / 2 < 8 := by omega
    have hy : (y 0).val = 1452 * k3.val + 33 * (16 * a.val + i.val / 2) + 2 * k4.val + i.val % 2 + 66 * (nb % 16 / 2) := by omega
    exact ⟨gPiece8 c k3 k4 fm ft hT a i, (mem_gPieces c k3 k4 fm ft hT _).mpr (.inr ⟨a, i, rfl⟩), mem_gRect8 k3 k4 a i y _ hj hy⟩
  · have hj : (nb - 32) / 2 < 6 := by omega
    have hy : (y 0).val = 1452 * k3.val + 33 * (32 + i.val / 2) + 2 * k4.val + i.val % 2 + 66 * ((nb - 32) / 2) := by omega
    exact ⟨gPiece6 c k3 k4 fm ft hT i, (mem_gPieces c k3 k4 fm ft hT _).mpr (.inl ⟨i, rfl⟩), mem_gRect6 k3 k4 i y _ hj hy⟩

/-- A trip puts tile `k4` of block `k3` at the closed form and keeps the tiles that had it. -/
theorem gather_trip (c : Dev nD) (k3 : Fin k0_t3_loop.trips) (k4 : Fin k0_t4_loop.trips) (fm : CBuf (F := F) c vM) (ft : CBuf (F := F) c sT)
    (hT : TabOk c ft) (f : CBuf (F := F) c vO)
    (hf : ∀ y : S23232x128.Idx, (y 0).val / 1452 = k3.val → (y 0).val % 33 / 2 < k4.val → vO2.view.read (Elt F) f y = oGoal fm ft y)
    (y : S23232x128.Idx) (hk : (y 0).val / 1452 = k3.val) (hw : (y 0).val % 33 / 2 < k4.val + 1) :
    vO2.view.read (Elt F) (vO2.view.writes (Elt F) f (gPieces c k3 k4 fm ft hT)) y = oGoal fm ft y := by
  by_cases h : ∃ p ∈ gPieces c k3 k4 fm ft hT, y ∈ p.1.set
  · refine View.read_writes_apply_of_pieces (v := vO2.view) (f := f) (oGoal fm ft) _ ?_ y h
    intro p hp x
    rcases (mem_gPieces c k3 k4 fm ft hT p).mp hp with ⟨i, rfl⟩ | ⟨a, i, rfl⟩
    · exact gPiece6_eq c k3 k4 fm ft hT i x
    · exact gPiece8_eq c k3 k4 fm ft hT a i x
  · have h' : ∀ p ∈ gPieces c k3 k4 fm ft hT, y ∉ p.1.set := fun p hp hm => h ⟨p, hp, hm⟩
    rw [View.read_writes_apply_of_forall_not_mem (v := vO2.view) (f := f) y _ h']
    apply hf y hk
    by_contra hlt
    exact h (gPieces_cover c k3 k4 fm ft hT y hk (by omega))

end Cert.KernelIdeal.Hand

end
-- ==== Proof.Blocks.lean ====
/- The blocks of the output buffer and of the result in HBM, by coordinates; what a block's transfer lands. -/
module

public import proofs.«01_k».proof.Proof.GatherValue

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Block `k`'s rows that go out (the 33rd row of each group does not), and where they go in HBM. -/
abbrev oSrc (k : Fin k0_t3_loop.trips) : Memref sig .tc .vmem S44x32x1x128 .i32 :=
  (vO.slice (Rect.unit (s := S16x44x33x1x128) (k0_off119 k) S1x44x32x1x128.size (Gen.k0_off119_inb k)) (fun _ => rfl)).squeeze S44x32x1x128 Gen.squeezes_S1x44x32x1x128_S44x32x1x128
abbrev wDst (k : Fin k0_t3_loop.trips) : Memref sig .tc .hbm S44x32x1x128 .i32 :=
  (mW.slice (Rect.unit (s := S16x44x32x1x128) (k0_off118 k) S1x44x32x1x128.size (Gen.k0_off118_inb k)) (fun _ => rfl)).squeeze S44x32x1x128 Gen.squeezes_S1x44x32x1x128_S44x32x1x128

theorem off118_eq : ∀ k : Fin k0_t3_loop.trips, k0_off118 k = ![k.val, 0, 0, 0, 0] := by decide +kernel
theorem off119_eq : ∀ k : Fin k0_t3_loop.trips, k0_off119 k = ![k.val, 0, 0, 0, 0] := by decide +kernel
theorem off120_eq : ∀ k : Fin k0_t5_loop.trips, k0_off120 k = ![k.val, 0, 0, 0, 0] := by decide +kernel

/-- The row of 128 words an element of the output buffer lies in, and its lane. -/
def rowO (i : S16x44x33x1x128.Idx) : S23232x128.Idx :=
  ix2 ⟨1452 * (i 0).val + 33 * (i 1).val + (i 2).val, by
    have h0 : (i 0).val < 16 := (i 0).isLt
    have h1 : (i 1).val < 44 := (i 1).isLt
    have h2 : (i 2).val < 33 := (i 2).isLt
    omega⟩ (i 4)

theorem vO2_emb_rowO (i : S16x44x33x1x128.Idx) : vO2.view.emb (rowO i) = i := by
  refine Shape.reshapeEquiv_eq_of_rowMajor _ ?_
  have h3 : (i 3).val < 1 := (i 3).isLt
  rw [Shape.rowMajor_val_five, Shape.rowMajor_val_two]
  show ((((i 0).val * 44 + (i 1).val) * 33 + (i 2).val) * 1 + (i 3).val) * 128 + (i 4).val
    = (1452 * (i 0).val + 33 * (i 1).val + (i 2).val) * 128 + (i 4).val
  omega

theorem rowO_vO2_emb (y : S23232x128.Idx) : rowO (vO2.view.emb y) = y := by
  apply vO2.view.emb.injective
  exact vO2_emb_rowO _

theorem mem_oBlk (k : Fin k0_t3_loop.trips) (i : S16x44x33x1x128.Idx) : i ∈ (oBlk k).view.set ↔ (i 0).val = k.val := by
  have h1 : (i 1).val < 44 := (i 1).isLt
  have h2 : (i 2).val < 33 := (i 2).isLt
  rw [vO2_set_slice]
  have hb : i ∈ vO2.view.setOn (Rect.unit (s := S23232x128) ![1452 * k.val, 0] ![1452, 128] (oBlk_inb k)).set
      ↔ rowO i ∈ (Rect.unit (s := S23232x128) ![1452 * k.val, 0] ![1452, 128] (oBlk_inb k)).set := by
    simp only [View.setOn, Finset.mem_map]
    constructor
    · rintro ⟨a, ha, rfl⟩
      rw [rowO_vO2_emb]; exact ha
    · intro h
      exact ⟨rowO i, h, vO2_emb_rowO i⟩
  rw [hb, Rect.mem_set_unit]
  constructor
  · intro h
    have h0 : 1452 * k.val ≤ 1452 * (i 0).val + 33 * (i 1).val + (i 2).val ∧ 1452 * (i 0).val + 33 * (i 1).val + (i 2).val < 1452 * k.val + 1452 := h 0
    omega
  · intro h a
    fin_cases a
    · show 1452 * k.val ≤ 1452 * (i 0).val + 33 * (i 1).val + (i 2).val ∧ 1452 * (i 0).val + 33 * (i 1).val + (i 2).val < 1452 * k.val + 1452
      omega
    · have h4 : (i 4).val < 128 := (i 4).isLt
      exact ⟨Nat.zero_le _, by show (i 4).val < 0 + 128; omega⟩

theorem oSrc_set (k : Fin k0_t3_loop.trips) :
    (oSrc k).view.set = (Rect.unit (s := S16x44x33x1x128) (k0_off119 k) S1x44x32x1x128.size (Gen.k0_off119_inb k)).set :=
  (View.set_reshape _ _).trans (View.set_slice_whole _ _)
theorem wDst_set (k : Fin k0_t3_loop.trips) :
    (wDst k).view.set = (Rect.unit (s := S16x44x32x1x128) (k0_off118 k) S1x44x32x1x128.size (Gen.k0_off118_inb k)).set :=
  (View.set_reshape _ _).trans (View.set_slice_whole _ _)

theorem oSrc_subset (k : Fin k0_t3_loop.trips) : (oSrc k).view.set ⊆ (oBlk k).view.set := by
  intro i hi
  rw [oSrc_set, Rect.mem_set_unit] at hi
  have := hi 0
  rw [off119_eq] at this
  have h0 : k.val ≤ (i 0).val ∧ (i 0).val < k.val + 1 := this
  exact (mem_oBlk k i).mpr (by omega)

theorem mem_wDst (k : Fin k0_t3_loop.trips) (i : S16x44x32x1x128.Idx) : i ∈ (wDst k).view.set ↔ (i 0).val = k.val := by
  rw [wDst_set, Rect.mem_set_unit, off118_eq]
  constructor
  · intro h
    have h0 : k.val ≤ (i 0).val ∧ (i 0).val < k.val + 1 := h 0
    omega
  · intro h a
    have h1 : (i 1).val < 44 := (i 1).isLt
    have h2 : (i 2).val < 32 := (i 2).isLt
    have h3 : (i 3).val < 1 := (i 3).isLt
    have h4 : (i 4).val < 128 := (i 4).isLt
    fin_cases a
    · show k.val ≤ (i 0).val ∧ (i 0).val < k.val + 1; omega
    · show 0 ≤ (i 1).val ∧ (i 1).val < 0 + 44; omega
    · show 0 ≤ (i 2).val ∧ (i 2).val < 0 + 32; omega
    · show 0 ≤ (i 3).val ∧ (i 3).val < 0 + 1; omega
    · show 0 ≤ (i 4).val ∧ (i 4).val < 0 + 128; omega

theorem squeeze_emb (k : ℕ) (hk : k < 16) (x : S44x32x1x128.Idx) :
    Shape.reshapeEquiv (s := S1x44x32x1x128) Gen.squeezes_S1x44x32x1x128_S44x32x1x128.numel_eq x = ix5 0 (x 0) (x 1) 0 (x 3) := by
  refine Shape.reshapeEquiv_eq_of_rowMajor _ ?_
  have h2 : (x 2).val < 1 := (x 2).isLt
  refine (Shape.rowMajor_val_five (d := S1x44x32x1x128.size) _).trans (Eq.trans ?_ (Shape.rowMajor_val_four (d := S44x32x1x128.size) _).symm)
  show (((0 * 44 + (x 0).val) * 32 + (x 1).val) * 1 + 0) * 128 + (x 3).val = (((x 0).val * 32 + (x 1).val) * 1 + (x 2).val) * 128 + (x 3).val
  omega

theorem oSrc_emb (k : Fin k0_t3_loop.trips) (x : S44x32x1x128.Idx) :
    (oSrc k).view.emb x = ix5 (k : Fin 16) (x 0) ⟨(x 1).val, by have : (x 1).val < 32 := (x 1).isLt; omega⟩ 0 (x 3) := by
  show (Rect.unit (s := S16x44x33x1x128) (k0_off119 k) S1x44x32x1x128.size (Gen.k0_off119_inb k)).emb
    (Shape.reshapeEquiv (s := S1x44x32x1x128) Gen.squeezes_S1x44x32x1x128_S44x32x1x128.numel_eq x) = _
  rw [squeeze_emb k.val k.isLt]
  funext a
  apply Fin.ext
  show k0_off119 k a + 1 * (ix5 (0 : Fin 1) (x 0) (x 1) (0 : Fin 1) (x 3) a).val = _
  rw [off119_eq]
  fin_cases a
  · show k.val + 1 * 0 = k.val; omega
  · show 0 + 1 * (x 0).val = (x 0).val; omega
  · show 0 + 1 * (x 1).val = (x 1).val; omega
  · rfl
  · show 0 + 1 * (x 3).val = (x 3).val; omega

theorem wDst_emb (k : Fin k0_t3_loop.trips) (x : S44x32x1x128.Idx) :
    (wDst k).view.emb x = ix5 (k : Fin 16) (x 0) (x 1) 0 (x 3) := by
  show (Rect.unit (s := S16x44x32x1x128) (k0_off118 k) S1x44x32x1x128.size (Gen.k0_off118_inb k)).emb
    (Shape.reshapeEquiv (s := S1x44x32x1x128) Gen.squeezes_S1x44x32x1x128_S44x32x1x128.numel_eq x) = _
  rw [squeeze_emb k.val k.isLt]
  funext a
  apply Fin.ext
  show k0_off118 k a + 1 * (ix5 (0 : Fin 1) (x 0) (x 1) (0 : Fin 1) (x 3) a).val = _
  rw [off118_eq]
  fin_cases a
  · show k.val + 1 * 0 = k.val; omega
  · show 0 + 1 * (x 0).val = (x 0).val; omega
  · show 0 + 1 * (x 1).val = (x 1).val; omega
  · rfl
  · show 0 + 1 * (x 3).val = (x 3).val; omega

/-- The words the kernel writes to HBM. -/
def wGoal (fm : S45056x128.Idx → BitVec 32) (ft : S16x128.Idx → BitVec 32) (i : S16x44x32x1x128.Idx) : BitVec 32 :=
  oGoal fm ft (rowO (ix5 (i 0) (i 1) ⟨(i 2).val, by have : (i 2).val < 32 := (i 2).isLt; omega⟩ 0 (i 4)))

/-- A finished block's transfer lands the words there. -/
theorem wDst_landed (c : Dev nD) (k : Fin k0_t3_loop.trips) (fm : S45056x128.Idx → BitVec 32) (ft : S16x128.Idx → BitVec 32)
    (f : CBuf (F := F) c vO) (hf : ∀ y : S23232x128.Idx, (y 0).val / 1452 = k.val → (y 0).val % 33 / 2 < 16 → vO2.view.read (Elt F) f y = oGoal fm ft y)
    (g : CBuf (F := F) c mW) :
    ((wDst k).view.loc (c : Thread nD τ) ↦[(wDst k).view.set]{fullShare} (wDst k).view.write (Elt F) g ((oSrc k).view.read (Elt F) f) Finset.univ
      : sProp (MT nD τ sig Unit (Elt F) ℕ (UU nD τ) ℕ)) = ptw c (wDst k) (wGoal fm ft : S16x44x32x1x128.Idx → Elt F .i32) := by
  refine pointsTo_congr fun i hi => ?_
  obtain ⟨x, -, rfl⟩ := Finset.mem_map.mp hi
  rw [View.write_emb_of_mem (v := (wDst k).view) (Val := Elt F) g _ (Finset.mem_univ x)]
  show f ((oSrc k).view.emb x) = wGoal fm ft ((wDst k).view.emb x)
  rw [oSrc_emb, wDst_emb]
  have hk : k.val < 16 := k.isLt
  have h0 : (x 0).val < 44 := (x 0).isLt
  have h1 : (x 1).val < 32 := (x 1).isLt
  have e := hf (rowO (ix5 (k : Fin 16) (x 0) ⟨(x 1).val, by omega⟩ 0 (x 3)))
    (by show (1452 * k.val + 33 * (x 0).val + (x 1).val) / 1452 = k.val; omega)
    (by show (1452 * k.val + 33 * (x 0).val + (x 1).val) % 33 / 2 < 16; omega)
  rw [show vO2.view.read (Elt F) f (rowO (ix5 (k : Fin 16) (x 0) ⟨(x 1).val, by omega⟩ 0 (x 3)))
    = f (vO2.view.emb (rowO (ix5 (k : Fin 16) (x 0) ⟨(x 1).val, by omega⟩ 0 (x 3)))) from rfl, vO2_emb_rowO] at e
  exact e

end Cert.KernelIdeal.Hand

end
-- ==== Proof.GatherLoops.lean ====
/- The loops over the blocks: each block is gathered and sent off; then all are waited for. -/
module

public import proofs.«01_k».proof.Proof.Blocks
public import Idealize.ShloMosaic.Lib.Batch

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev t3b (v481 v482 : IVec S16x128 32) := Gen.k0_t3_body (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12 v481 v482
abbrev t5b (v481 v482 : IVec S16x128 32) := Gen.k0_t5_body (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12 v481 v482

/-- Before pass `k` over block `k3`: the passes made so far have their words. -/
def t4Inv (c : Dev nD) (k3 : Fin k0_t3_loop.trips) (fm : CBuf (F := F) c vM) (ft : CBuf (F := F) c sT) (k : ℕ) (_ : Unit) :
    sProp (MT nD τ sig Unit (Elt F) ℕ (UU nD τ) ℕ) :=
  iprop(pt c vM fm ∗ pt c sT ft ∗ ∃ f, ⌜∀ y : S23232x128.Idx, (y 0).val / 1452 = k3.val → (y 0).val % 33 / 2 < k → vO2.view.read (Elt F) f y = oGoal fm ft y⌝
    ∗ ptw c (oBlk k3) f)

theorem t4_step (c : Dev nD) (v481 v482 : IVec S16x128 32) (k3 : Fin k0_t3_loop.trips) (v765 : BitVec 32) (fm : CBuf (F := F) c vM)
    (ft : CBuf (F := F) c sT) (hT : TabOk c ft) (k4 : Fin k0_t4_loop.trips) (acc : Unit) :
    t4Inv c k3 fm ft k4.val acc ⊢ wp frame (wpE (defs₀ (F := F)) 𝒱₀ (c : Thread nD τ) none) Set.univ (t4b (F := F) v481 v482 k3 v765 k4 acc)
      (t4Inv c k3 fm ft (k4.val + 1)) := by
  unfold t4Inv
  iintro ⟨HM, HT, ⟨%f, %hf, HO⟩⟩
  iapply ((gatherRun (F := F) c v481 v482 k3 v765 k4 fm ft hT).2 f _)
  isplitl [HM]; · iexact HM
  isplitl [HT]; · iexact HT
  isplitl [HO]; · iexact HO
  iintro ⟨HM, HT, HO⟩
  isplitl [HM]; · iexact HM
  isplitl [HT]; · iexact HT
  iexists _
  isplitr
  · ipureintro
    intro y hk hw
    exact gather_trip c k3 k4 fm ft hT f hf y hk hw
  · rw [gatherRun_eq]
    iexact HO

/-- Block `k` of the output buffer held, block `k` of the result held, and the rows of block `k` that do not go out. -/
def oHeld (c : Dev nD) (k : Fin k0_t3_loop.trips) : sProp (MT nD τ sig Unit (Elt F) ℕ (UU nD τ) ℕ) :=
  iprop(∃ f : CBuf (F := F) c vO, ptw c (oBlk k) f)
def wHeld (c : Dev nD) (k : Fin k0_t3_loop.trips) : sProp (MT nD τ sig Unit (Elt F) ℕ (UU nD τ) ℕ) :=
  iprop(∃ f : CBuf (F := F) c mW, ptw c (wDst k) f)
def oPad (c : Dev nD) (k : Fin k0_t3_loop.trips) : sProp (MT nD τ sig Unit (Elt F) ℕ (UU nD τ) ℕ) :=
  iprop(∃ f : CBuf (F := F) c vO, vO.view.loc (c : Thread nD τ) ↦[(oBlk k).view.set \ (oSrc k).view.set]{fullShare} f)

/-- What block `k`'s transfer delivers: the words in HBM, and the rows back. -/
def oD (c : Dev nD) (fm : CBuf (F := F) c vM) (ft : CBuf (F := F) c sT) (k : Fin k0_t3_loop.trips) : sProp (MT nD τ sig Unit (Elt F) ℕ (UU nD τ) ℕ) :=
  iprop(ptw c (wDst k) (wGoal fm ft : S16x44x32x1x128.Idx → Elt F .i32) ∗ ∃ f : CBuf (F := F) c vO, ptw c (oSrc k) f)

instance oD_storable (c : Dev nD) (fm : CBuf (F := F) c vM) (ft : CBuf (F := F) c sT) (k : Fin k0_t3_loop.trips) :
    BI.Storable (upEmb : UEmb _ (MT nD τ sig Unit (Elt F) ℕ (UU nD τ) ℕ)) (oD c fm ft k) := by
  unfold oD; infer_instance

abbrev oBatch (c : Dev nD) (fm : CBuf (F := F) c vM) (ft : CBuf (F := F) c sT) (j u : ℕ) : sProp (MT nD τ sig Unit (Elt F) ℕ (UU nD τ) ℕ) :=
  Transfers.Batch (countersEmb (U := UU nD τ)) (c : Thread nD τ) (.dma cc0_scratch9.sem) () 22528 (oD c fm ft) j u

/-- Before block `k`: the earlier blocks sent off, the others held. -/
def t3Inv (c : Dev nD) (fm : CBuf (F := F) c vM) (ft : CBuf (F := F) c sT) (k : ℕ) (_ : Unit) : sProp (MT nD τ sig Unit (Elt F) ℕ (UU nD τ) ℕ) :=
  iprop(oBatch c fm ft k 0 ∗ bigSep (Ring.rangeSet k0_t3_loop.trips k k0_t3_loop.trips) (oHeld (F := F) c)
    ∗ bigSep (Ring.rangeSet k0_t3_loop.trips k k0_t3_loop.trips) (wHeld (F := F) c)
    ∗ bigSep (Ring.rangeSet k0_t3_loop.trips 0 k) (oPad (F := F) c) ∗ pt c vM fm ∗ pt c sT ft)

/-- A block's transfer credits as much as 22528 does. -/
theorem wDst_amount (k : Fin k0_t3_loop.trips) : (wDst k).view.amount (SemLoc.dma cc0_scratch9.sem) = 22528 := rfl

/-- A return followed by a return is a return. -/
theorem wp_ret_bind (c : Dev nD) {Q : Unit → sProp (MT nD τ sig Unit (Elt F) ℕ (UU nD τ) ℕ)} :
    wp frame (wpE (defs₀ (F := F)) 𝒱₀ (c : Thread nD τ) none) Set.univ (Prog.ret PUnit.unit : Prog (TpuEff nD τ sig (Elt F) Λ₀ .tc) Unit) Q
      ⊢ wp frame (wpE (defs₀ (F := F)) 𝒱₀ (c : Thread nD τ) none) Set.univ
        ((Prog.ret PUnit.unit : Prog (TpuEff nD τ sig (Elt F) Λ₀ .tc) PUnit.{1}).bind fun _ => (Pure.pure PUnit.unit : Prog (TpuEff nD τ sig (Elt F) Λ₀ .tc) Unit)) Q := .rfl

/-- Sending a finished block off, as one of the sixteen transfers on one cell. -/
theorem send_block (c : Dev nD) (fm : CBuf (F := F) c vM) (ft : CBuf (F := F) c sT) (k3 : Fin k0_t3_loop.trips) (f : CBuf (F := F) c vO) (fw : CBuf (F := F) c mW)
    (hf : ∀ y : S23232x128.Idx, (y 0).val / 1452 = k3.val → (y 0).val % 33 / 2 < 16 → vO2.view.read (Elt F) f y = oGoal fm ft y)
    {α : Type} {hsrc : (oSrc k3).view.WordExact} {hdst : (wDst k3).view.WordExact} {hsem : DmaTarget.Typed (nD := nD) .vmem (.dma cc0_scratch9.sem) (.here (p := (Proc.tc : Proc τ)) (wDst k3))}
    {k : PUnit → Prog (TpuEff nD τ sig (Elt F) Λ₀ .tc) α} {Q : α → sProp (MT nD τ sig Unit (Elt F) ℕ (UU nD τ) ℕ)} :
    iprop(ptw c (oSrc k3) f ∗ ptw c (wDst k3) fw ∗ oBatch c fm ft k3.val 0) ⊢
      iprop((oBatch c fm ft (k3.val + 1) 0 -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDmaAs (oSrc k3) (.here (wDst k3)) .same (.dma cc0_scratch9.sem) hsrc hdst hsem) k) Q) := by
  refine Transfers.wp_dmaBatch (countersEmb (U := UU nD τ)) 𝒱₀ (c : Thread nD τ) none () 22528 (wDst_amount k3) (Finset.Subset.refl _) k3.isLt (Nat.zero_le _) ?_
  have hD : (iprop(((wDst k3).view.loc (c : Thread nD τ) ↦[(wDst k3).view.set]{fullShare} (wDst k3).view.write (Elt F) fw ((oSrc k3).view.read (Elt F) f) Finset.univ)
      ∗ ptw c (oSrc k3) f) : sProp (MT nD τ sig Unit (Elt F) ℕ (UU nD τ) ℕ)) ⊢ oD c fm ft k3 := by
    rw [wDst_landed c k3 fm ft f hf fw]
    unfold oD
    iintro ⟨H1, H2⟩
    isplitl [H1]; · iexact H1
    iexists f; iexact H2
  exact hD

theorem t3_step (c : Dev nD) (v481 v482 : IVec S16x128 32) (fm : CBuf (F := F) c vM) (ft : CBuf (F := F) c sT) (hT : TabOk c ft)
    (k3 : Fin k0_t3_loop.trips) (acc : Unit) :
    t3Inv c fm ft k3.val acc ⊢ wp frame (wpE (defs₀ (F := F)) 𝒱₀ (c : Thread nD τ) none) Set.univ (t3b (F := F) v481 v482 k3 acc)
      (t3Inv c fm ft (k3.val + 1)) := by
  have hk : k3.val < 16 := k3.isLt
  unfold t3Inv
  rw [Ring.bigSep_rangeSet_head (Φ := oHeld (F := F) c) k3.isLt k3.isLt, Ring.bigSep_rangeSet_head (Φ := wHeld (F := F) c) k3.isLt k3.isLt,
    Ring.bigSep_rangeSet_last (Φ := oPad (F := F) c) (lo := 0) (hi := k3.val + 1) (by omega) k3.isLt]
  rw [show oHeld (F := F) c ⟨k3.val, k3.isLt⟩ = iprop(∃ f : CBuf (F := F) c vO, ptw c (oBlk k3) f) from rfl,
    show oPad (F := F) c ⟨k3.val + 1 - 1, by omega⟩ = iprop(∃ f : CBuf (F := F) c vO, vO.view.loc (c : Thread nD τ) ↦[(oBlk k3).view.set \ (oSrc k3).view.set]{fullShare} f) from rfl,
    show wHeld (F := F) c ⟨k3.val, k3.isLt⟩ = iprop(∃ f : CBuf (F := F) c mW, ptw c (wDst k3) f) from rfl]
  iintro ⟨HB, ⟨⟨%fo, HO⟩, HOs⟩, ⟨⟨%fw, HW⟩, HWs⟩, HPs, HM, HT⟩
  unfold t3b Gen.k0_t3_body
  dsimp only
  sl_for (t4Inv c k3 fm ft) $$ [HO HM HT]
  · intro k acc; exact t4_step c v481 v482 k3 _ fm ft hT k acc
  · unfold t4Inv
    isplitl [HM]; · iexact HM
    isplitl [HT]; · iexact HT
    iexists fo
    isplitr
    · ipureintro; intro y _ hy; omega
    · iexact HO
  iintro %acc HI
  unfold t4Inv
  icases HI with ⟨HM, HT, ⟨%f, %hf, HO⟩⟩
  have hf' : ∀ y : S23232x128.Idx, (y 0).val / 1452 = k3.val → (y 0).val % 33 / 2 < 16 → vO2.view.read (Elt F) f y = oGoal fm ft y := fun y h1 h2 => by
    have e : Scf.trips k0_t4_loop.lb k0_t4_loop.ub k0_t4_loop.st = 16 := by decide +kernel
    exact hf y h1 (by rw [e]; exact h2)
  ihave HO := (pointsTo_split_subset (oSrc_subset k3)).mp $$ HO
  icases HO with ⟨HS, HP⟩
  iapply (send_block c fm ft k3 f fw hf') $$ [HS HW HB]
  · isplitl [HS]; · iexact HS
    isplitl [HW]; · iexact HW
    iexact HB
  iintro HB
  iapply (wp_ret_bind c)
  sl_step
  isplitl [HB]; · iexact HB
  isplitl [HOs]; · iexact HOs
  isplitl [HWs]; · iexact HWs
  isplitl [HP HPs]
  · isplitl [HP]
    · iexists f; iexact HP
    · iexact HPs
  isplitl [HM]; · iexact HM
  iexact HT

/-- While the blocks are waited for: what is waited for so far, and at the end every block's delivery. -/
def t5Inv (c : Dev nD) (fm : CBuf (F := F) c vM) (ft : CBuf (F := F) c sT) (k : ℕ) (_ : Unit) : sProp (MT nD τ sig Unit (Elt F) ℕ (UU nD τ) ℕ) :=
  iprop(⌜k ≤ k0_t5_loop.trips⌝ ∗ (∃ W, owes (c : Thread nD τ) 0 W)
    ∗ if k < k0_t5_loop.trips then oBatch c fm ft k0_t3_loop.trips (k * 22528)
      else iprop(semVal ((c : Thread nD τ), SemLoc.dma cc0_scratch9.sem) 0 ∗ bigSep Finset.univ (oD c fm ft)))

theorem t5_step (c : Dev nD) (v481 v482 : IVec S16x128 32) (fm : CBuf (F := F) c vM) (ft : CBuf (F := F) c sT)
    (k5 : Fin k0_t5_loop.trips) (acc : Unit) :
    t5Inv c fm ft k5.val acc ⊢ wp frame (wpE (defs₀ (F := F)) 𝒱₀ (c : Thread nD τ) none) Set.univ (t5b (F := F) v481 v482 k5 acc)
      (t5Inv c fm ft (k5.val + 1)) := by
  have hk := k5.isLt
  have e5 : k0_t5_loop.trips = 16 := by decide +kernel
  have e3 : k0_t3_loop.trips = 16 := by decide +kernel
  unfold t5Inv
  simp only [if_pos hk]
  unfold t5b Gen.k0_t5_body
  rcases Nat.lt_or_ge (k5.val + 1) k0_t5_loop.trips with h1 | h1
  · simp only [if_pos h1]
    iintro ⟨-, ⟨%W, HO⟩, HB⟩
    sl_exec
    sl_step
    isplitr; · ipureintro; omega
    isplitl [HO]; · iexists _; iexact HO
    rw [show (k5.val + 1) * 22528 = k5.val * 22528 + 22528 by omega]
    iexact HB
  · simp only [if_neg (Nat.not_lt.mpr h1)]
    iintro ⟨-, ⟨%W, HO⟩, HB⟩
    sl_exec
    sl_step
    isplitr; · ipureintro; omega
    isplitl [HO]; · iexists _; iexact HO
    isplitl [HB]; · iexact HB
    iexact HB_all

end Cert.KernelIdeal.Hand

end
-- ==== Proof.SplitLoops.lean ====
/- The split loops: what each carries from trip to trip, and one trip of each. -/
module

public import proofs.«01_k».proof.Proof.SplitValue

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev t1b (v481 v482 : IVec S16x128 32) :=
  Gen.k0_t1_body (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12 v481 v482

/-- Before row tile `k` of chunk `k1`: the chunk is held, and the rows split so far have their half-words. -/
def t2Inv (c : Dev nD) (k1 : Fin k0_t1_loop.trips) (fq : CBuf (F := F) c vQ) (k : ℕ) (_ : Unit) : sProp (MT nD τ sig Unit (Elt F) ℕ (UU nD τ) ℕ) :=
  iprop(ptw c (qDst k1) fq ∗ ∃ f, ⌜∀ y : S45056x128.Idx, (y 0).val / 22 % 256 < 16 * k1.val + 8 * k → f y = mGoal fq y⌝ ∗ pt c vM f)

theorem t2_step (c : Dev nD) (v481 v482 : IVec S16x128 32) (k1 : Fin k0_t1_loop.trips) (v765 : BitVec 32) (fq : CBuf (F := F) c vQ)
    (k2 : Fin k0_t2_loop.trips) (acc : Unit) :
    t2Inv c k1 fq k2.val acc ⊢ wp frame (wpE (defs₀ (F := F)) 𝒱₀ (c : Thread nD τ) none) Set.univ (t2b (F := F) v481 v482 k1 v765 k2 acc)
      (t2Inv c k1 fq (k2.val + 1)) := by
  unfold t2Inv
  iintro ⟨HQ, ⟨%f, %hf, HM⟩⟩
  iapply ((splitRun (F := F) c v481 v482 k1 v765 k2 fq).2 f _)
  isplitl [HQ]; · iexact HQ
  isplitl [HM]; · iexact HM
  iintro ⟨HQ, HM⟩
  isplitl [HQ]; · iexact HQ
  iexists _
  isplitr
  · ipureintro
    intro y hy
    exact split_trip c k1 k2 fq f hf y hy
  · rw [splitRun_eq]
    iexact HM

/-- The semaphore cell chunk `k` arrives on. -/
abbrev qCell (k : Fin k0_t1_loop.trips) : DmaSem sig :=
  ((cc0_scratch8.slice (Rect.unit (s := S16) (k0_off1 k) S1.size (Gen.k0_off1_inb k))).squeeze S_ Gen.squeezes_S1_S_).sem

/-- Chunk `k` under way: its rows of the packed words will be in VMEM, and its rows in HBM back. -/
def qFly (c : Dev nD) (fQ : CBuf (F := F) c mQ) (k : Fin k0_t1_loop.trips) : sProp (MT nD τ sig Unit (Elt F) ℕ (UU nD τ) ℕ) :=
  Transfers.Flight (countersEmb (U := UU nD τ)) (c : Thread nD τ) (.dma (qCell k)) () 22528
    iprop(ptw c (qDst k) (fQ : S256x11264.Idx → Elt F .i32) ∗ ptw c (qSrc k) fQ)

/-- Chunk `k` landed: both its ends held, its cell at zero. -/
def qLanded (c : Dev nD) (fQ : CBuf (F := F) c mQ) (k : Fin k0_t1_loop.trips) : sProp (MT nD τ sig Unit (Elt F) ℕ (UU nD τ) ℕ) :=
  iprop(ptw c (qDst k) (fQ : S256x11264.Idx → Elt F .i32) ∗ ptw c (qSrc k) fQ ∗ semVal ((c : Thread nD τ), SemLoc.dma (qCell k)) 0)

/-- Before chunk `k`: the earlier chunks landed, the others under way, and the rows split so far have their half-words. -/
def t1Inv (c : Dev nD) (fQ : CBuf (F := F) c mQ) (k : ℕ) (_ : Unit) : sProp (MT nD τ sig Unit (Elt F) ℕ (UU nD τ) ℕ) :=
  iprop(bigSep (Ring.rangeSet k0_t1_loop.trips 0 k) (qLanded c fQ) ∗ bigSep (Ring.rangeSet k0_t1_loop.trips k k0_t1_loop.trips) (qFly c fQ)
    ∗ (∃ f, ⌜∀ y : S45056x128.Idx, (y 0).val / 22 % 256 < 16 * k → f y = mGoal fQ y⌝ ∗ pt c vM f) ∗ (∃ W, owes (c : Thread nD τ) 0 W))

theorem off_eq_of {o o' : Fin 2 → ℕ} {inb : ∀ a, o a + S16x11264.size a ≤ S256x11264.size a} {inb' : ∀ a, o' a + S16x11264.size a ≤ S256x11264.size a} (h : o = o') :
    Rect.unit (s := S256x11264) o S16x11264.size inb = Rect.unit (s := S256x11264) o' S16x11264.size inb' := by subst h; rfl

/-- A chunk's transfer, issued at offset `o` with other chunks' transfers before it, delivers the chunk. -/
theorem fly_conv (c : Dev nD) (fQ : CBuf (F := F) c mQ) (k : Fin k0_t1_loop.trips) (gQ : CBuf (F := F) c vQ) (o : Fin 2 → ℕ)
    (inb : ∀ a, o a + S16x11264.size a ≤ S256x11264.size a) (w : S16x11264.Idx → Elt F .i32) (L : List (View.Piece (Elt F) S256x11264 .i32))
    (sm : DmaSem sig) (ho : o = k0_off2 k) (hs : sm = qCell k)
    (hw : w = (mQ.slice (Rect.unit (s := S256x11264) o S16x11264.size inb) (fun _ => rfl)).view.read (Elt F) fQ) :
    (Transfers.Flight (countersEmb (U := UU nD τ)) (c : Thread nD τ) (.dma sm) () 22528
      iprop((vQ.view.loc (c : Thread nD τ) ↦[(vQ.slice (Rect.unit (s := S256x11264) o S16x11264.size inb) (fun _ => rfl)).view.set]{fullShare}
          vQ.view.writes (Elt F) gQ (⟨Rect.unit (s := S256x11264) o S16x11264.size inb, w⟩ :: L))
        ∗ (mQ.view.loc (c : Thread nD τ) ↦[(mQ.slice (Rect.unit (s := S256x11264) o S16x11264.size inb) (fun _ => rfl)).view.set]{fullShare} fQ))
      : sProp (MT nD τ sig Unit (Elt F) ℕ (UU nD τ) ℕ)) ⊢ qFly c fQ k := by
  subst ho hs hw
  refine Transfers.Flight_mono _ _ (sep_mono (Entails.of_eq ?_) .rfl)
  refine pointsTo_congr fun y hy => ?_
  have e : (qDst k).view.write (Elt F) (vQ.view.writes (Elt F) gQ L) ((qDst k).view.read (Elt F) (fQ : S256x11264.Idx → Elt F .i32)) Finset.univ y
      = (fQ : S256x11264.Idx → Elt F .i32) y := by
    rw [View.write_read_eq_piecewise]
    exact Finset.piecewise_eq_of_mem _ _ _ hy
  exact e

theorem t1_step (c : Dev nD) (v481 v482 : IVec S16x128 32) (fQ : CBuf (F := F) c mQ) (k1 : Fin k0_t1_loop.trips) (acc : Unit) :
    t1Inv c fQ k1.val acc ⊢ wp frame (wpE (defs₀ (F := F)) 𝒱₀ (c : Thread nD τ) none) Set.univ (t1b (F := F) v481 v482 k1 acc)
      (t1Inv c fQ (k1.val + 1)) := by
  have hk : k1.val < 16 := k1.isLt
  unfold t1Inv
  rw [Ring.bigSep_rangeSet_head (Φ := qFly c fQ) k1.isLt k1.isLt, Ring.bigSep_rangeSet_last (Φ := qLanded c fQ) (lo := 0) (hi := k1.val + 1) (by omega) k1.isLt]
  rw [show qFly c fQ ⟨k1.val, k1.isLt⟩ = Transfers.Flight (countersEmb (U := UU nD τ)) (c : Thread nD τ) (.dma (qCell k1)) () 22528
    iprop(ptw c (qDst k1) (fQ : S256x11264.Idx → Elt F .i32) ∗ ptw c (qSrc k1) fQ) from rfl]
  iintro ⟨HL, ⟨HF, HFs⟩, ⟨%f, %hf, HM⟩, ⟨%W, HO⟩⟩
  unfold t1b Gen.k0_t1_body
  sl_exec
  sl_for (t2Inv c k1 (fQ : S256x11264.Idx → Elt F .i32)) $$ [HF_dst HM]
  · intro k acc; exact t2_step c v481 v482 k1 _ _ k acc
  · unfold t2Inv
    isplitl [HF_dst]; · iexact HF_dst
    iexists f
    isplitr
    · ipureintro; intro y hy; exact hf y (by omega)
    · iexact HM
  iintro %acc HI
  unfold t2Inv
  icases HI with ⟨HD, ⟨%f', %hf', HM⟩⟩
  sl_step
  isplitl [HD HF_src HF HL]
  · isplitl [HD HF_src HF]
    · unfold qLanded
      isplitl [HD]; · iexact HD
      isplitl [HF_src]; · iexact HF_src
      iexact HF
    · iexact HL
  isplitl [HFs]; · iexact HFs
  isplitl [HM]
  · iexists f'
    isplitr
    · ipureintro; intro y hy
      have e : Scf.trips k0_t2_loop.lb k0_t2_loop.ub k0_t2_loop.st = 2 := by decide +kernel
      exact hf' y (by rw [e]; omega)
    · iexact HM
  iexists _; iexact HO

end Cert.KernelIdeal.Hand

end
-- ==== Proof.Joins.lean ====
/- Buffers held block by block: a family of element sets with a key is a splitting of the buffer. -/
module

public import proofs.«01_k».proof.Proof.GatherLoops
public import proofs.«01_k».proof.Proof.SplitLoops

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Sets told apart by a key are disjoint and cover the buffer: it is held whole when each of them is held. -/
theorem pt_split {ℓ : Loc nD τ sig} {B : Type} [Fintype B] [DecidableEq B] (I : B → Finset (Idx ℓ)) (key : Idx ℓ → B)
    (h : ∀ b i, i ∈ I b ↔ key i = b) (f : Buf (Elt F) ℓ) :
    (ℓ ↦{fullShare} f : sProp (MT nD τ sig Unit (Elt F) ℕ (UU nD τ) ℕ)) = bigSep Finset.univ (fun b => ℓ ↦[I b]{fullShare} f) := by
  refine Ring.pointsTo_blocks I ?_ ?_ f
  · intro b b' hb
    refine Finset.disjoint_left.mpr fun i h1 h2 => hb ?_
    rw [← (h b i).mp h1, (h b' i).mp h2]
  · ext i
    simp only [Finset.mem_biUnion, Finset.mem_univ, true_and, iff_true]
    exact ⟨key i, (h _ i).mpr rfl⟩

theorem pt_join {ℓ : Loc nD τ sig} {B : Type} [Fintype B] [DecidableEq B] (I : B → Finset (Idx ℓ)) (key : Idx ℓ → B)
    (h : ∀ b i, i ∈ I b ↔ key i = b) (f : Buf (Elt F) ℓ) :
    (bigSep Finset.univ (fun b => iprop(∃ f : Buf (Elt F) ℓ, ℓ ↦[I b]{fullShare} f)) : sProp (MT nD τ sig Unit (Elt F) ℕ (UU nD τ) ℕ))
      ⊢ iprop(∃ f : Buf (Elt F) ℓ, ℓ ↦{fullShare} f) := by
  refine Ring.pointsTo_blocks_join_exists I ?_ ?_ f
  · intro b b' hb
    refine Finset.disjoint_left.mpr fun i h1 h2 => hb ?_
    rw [← (h b i).mp h1, (h b' i).mp h2]
  · ext i
    simp only [Finset.mem_biUnion, Finset.mem_univ, true_and, iff_true]
    exact ⟨key i, (h _ i).mpr rfl⟩

theorem mem_qRect (k : Fin k0_t1_loop.trips) (i : S256x11264.Idx) :
    i ∈ (Rect.unit (s := S256x11264) (k0_off2 k) S16x11264.size (Gen.k0_off2_inb k)).set ↔ (⟨(i 0).val / 16, by
      have : (i 0).val < 256 := (i 0).isLt
      have e : k0_t1_loop.trips = 16 := by decide +kernel
      omega⟩ : Fin k0_t1_loop.trips) = k := by
  have h1 : (i 1).val < 11264 := (i 1).isLt
  rw [Rect.mem_set_unit, off2_eq, Fin.ext_iff]
  constructor
  · intro h
    have h0 : 16 * k.val ≤ (i 0).val ∧ (i 0).val < 16 * k.val + 16 := h 0
    show (i 0).val / 16 = k.val
    omega
  · intro h a
    have h : (i 0).val / 16 = k.val := h
    fin_cases a
    · show 16 * k.val ≤ (i 0).val ∧ (i 0).val < 16 * k.val + 16; omega
    · show 0 ≤ (i 1).val ∧ (i 1).val < 0 + 11264; omega

theorem mem_qSrc (k : Fin k0_t1_loop.trips) (i : S256x11264.Idx) : i ∈ (qSrc k).view.set ↔ (⟨(i 0).val / 16, by
      have : (i 0).val < 256 := (i 0).isLt
      have e : k0_t1_loop.trips = 16 := by decide +kernel
      omega⟩ : Fin k0_t1_loop.trips) = k := by
  rw [show (qSrc k).view.set = _ from View.set_slice_whole _ _]
  exact mem_qRect k i
theorem mem_qDst (k : Fin k0_t1_loop.trips) (i : S256x11264.Idx) : i ∈ (qDst k).view.set ↔ (⟨(i 0).val / 16, by
      have : (i 0).val < 256 := (i 0).isLt
      have e : k0_t1_loop.trips = 16 := by decide +kernel
      omega⟩ : Fin k0_t1_loop.trips) = k := by
  rw [show (qDst k).view.set = _ from View.set_slice_whole _ _]
  exact mem_qRect k i

theorem trips3_eq : k0_t3_loop.trips = 16 := by decide +kernel

theorem wDst_key (k : Fin k0_t3_loop.trips) (i : S16x44x32x1x128.Idx) : i ∈ (wDst k).view.set ↔
    (⟨(i 0).val, by have h : (i 0).val < 16 := (i 0).isLt; rw [trips3_eq]; exact h⟩ : Fin k0_t3_loop.trips) = k := by
  rw [mem_wDst, Fin.ext_iff]
theorem oBlk_key (k : Fin k0_t3_loop.trips) (i : S16x44x33x1x128.Idx) : i ∈ (oBlk k).view.set ↔
    (⟨(i 0).val, by have h : (i 0).val < 16 := (i 0).isLt; rw [trips3_eq]; exact h⟩ : Fin k0_t3_loop.trips) = k := by
  rw [mem_oBlk, Fin.ext_iff]

/-- The packed words in HBM, and in VMEM, held whole and held chunk by chunk. -/
theorem mQ_blocks (c : Dev nD) (f : CBuf (F := F) c mQ) :
    (pt c mQ f : sProp (MT nD τ sig Unit (Elt F) ℕ (UU nD τ) ℕ)) = bigSep Finset.univ (fun k => ptw c (qSrc k) f) :=
  pt_split (ℓ := mQ.view.loc (c : Thread nD τ)) (fun b : Fin k0_t1_loop.trips => (qSrc b).view.set) _ mem_qSrc f
theorem vQ_blocks (c : Dev nD) (f : CBuf (F := F) c vQ) :
    (pt c vQ f : sProp (MT nD τ sig Unit (Elt F) ℕ (UU nD τ) ℕ)) = bigSep Finset.univ (fun k => ptw c (qDst k) f) :=
  pt_split (ℓ := vQ.view.loc (c : Thread nD τ)) (fun b : Fin k0_t1_loop.trips => (qDst b).view.set) _ mem_qDst f

/-- The result words in HBM, and the output buffer, held whole and held block by block. -/
theorem mW_blocks (c : Dev nD) (f : CBuf (F := F) c mW) :
    (pt c mW f : sProp (MT nD τ sig Unit (Elt F) ℕ (UU nD τ) ℕ)) = bigSep Finset.univ (fun k => ptw c (wDst k) f) :=
  pt_split (ℓ := mW.view.loc (c : Thread nD τ)) (fun b : Fin k0_t3_loop.trips => (wDst b).view.set) _ wDst_key f
theorem vO_blocks (c : Dev nD) (f : CBuf (F := F) c vO) :
    (pt c vO f : sProp (MT nD τ sig Unit (Elt F) ℕ (UU nD τ) ℕ)) = bigSep Finset.univ (fun k => ptw c (oBlk k) f) :=
  pt_split (ℓ := vO.view.loc (c : Thread nD τ)) (fun b : Fin k0_t3_loop.trips => (oBlk b).view.set) _ oBlk_key f
theorem vO_join (c : Dev nD) (f₀ : CBuf (F := F) c vO) :
    (bigSep Finset.univ (fun k => iprop(∃ f : CBuf (F := F) c vO, ptw c (oBlk k) f)) : sProp (MT nD τ sig Unit (Elt F) ℕ (UU nD τ) ℕ))
      ⊢ iprop(∃ f, pt c vO f) :=
  pt_join (ℓ := vO.view.loc (c : Thread nD τ)) (fun b : Fin k0_t3_loop.trips => (oBlk b).view.set) _ oBlk_key f₀

end Cert.KernelIdeal.Hand

end
-- ==== Proof.Scales.lean ====
/- The scales: their 44 column blocks, in VMEM and in HBM, and what copying each lands. -/
module

public import proofs.«01_k».proof.Proof.Joins

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem sSrc_inb (n : Fin 44) : ∀ a, (![0, 256 * n.val] : Fin 2 → ℕ) a + S32x256.size a ≤ S32x11264.size a := by
  intro a; have := n.isLt; fin_cases a
  · show 0 + 32 ≤ 32; omega
  · show 256 * n.val + 256 ≤ 11264; omega
theorem soDst_inb (n : Fin 44) : ∀ a, (![n.val, 0, 0] : Fin 3 → ℕ) a + S1x32x256.size a ≤ S44x32x256.size a := by
  intro a; have := n.isLt; fin_cases a
  · show n.val + 1 ≤ 44; omega
  · show 0 + 32 ≤ 32; omega
  · show 0 + 256 ≤ 256; omega

/-- Columns `256 n … 256 (n + 1)` of the scales, and block `n` of the result. -/
abbrev sSrc (n : Fin 44) : Memref sig .tc .vmem S32x256 .bf16 :=
  vS.slice (Rect.unit (s := S32x11264) ![0, 256 * n.val] S32x256.size (sSrc_inb n)) (fun _ => rfl)
abbrev soDst (n : Fin 44) : Memref sig .tc .hbm S32x256 .bf16 :=
  (mSO.slice (Rect.unit (s := S44x32x256) ![n.val, 0, 0] S1x32x256.size (soDst_inb n)) (fun _ => rfl)).squeeze S32x256 Gen.squeezes_S1x32x256_S32x256

theorem sSrc_set (n : Fin 44) : (sSrc n).view.set = (Rect.unit (s := S32x11264) ![0, 256 * n.val] S32x256.size (sSrc_inb n)).set :=
  View.set_slice_whole _ _
theorem soDst_set (n : Fin 44) : (soDst n).view.set = (Rect.unit (s := S44x32x256) ![n.val, 0, 0] S1x32x256.size (soDst_inb n)).set :=
  (View.set_reshape _ _).trans (View.set_slice_whole _ _)

theorem mem_sSrc (n : Fin 44) (i : S32x11264.Idx) : i ∈ (sSrc n).view.set ↔ (⟨(i 1).val / 256, by
    have : (i 1).val < 11264 := (i 1).isLt
    omega⟩ : Fin 44) = n := by
  have h0 : (i 0).val < 32 := (i 0).isLt
  rw [sSrc_set, Rect.mem_set_unit, Fin.ext_iff]
  constructor
  · intro h
    have h1 : 256 * n.val ≤ (i 1).val ∧ (i 1).val < 256 * n.val + 256 := h 1
    show (i 1).val / 256 = n.val
    omega
  · intro h a
    have h : (i 1).val / 256 = n.val := h
    fin_cases a
    · show 0 ≤ (i 0).val ∧ (i 0).val < 0 + 32; omega
    · show 256 * n.val ≤ (i 1).val ∧ (i 1).val < 256 * n.val + 256; omega

theorem mem_soDst (n : Fin 44) (i : S44x32x256.Idx) : i ∈ (soDst n).view.set ↔ (⟨(i 0).val, (i 0).isLt⟩ : Fin 44) = n := by
  have h1 : (i 1).val < 32 := (i 1).isLt
  have h2 : (i 2).val < 256 := (i 2).isLt
  rw [soDst_set, Rect.mem_set_unit, Fin.ext_iff]
  constructor
  · intro h
    have h1 : n.val ≤ (i 0).val ∧ (i 0).val < n.val + 1 := h 0
    show (i 0).val = n.val
    omega
  · intro h a
    have h : (i 0).val = n.val := h
    fin_cases a
    · show n.val ≤ (i 0).val ∧ (i 0).val < n.val + 1; omega
    · show 0 ≤ (i 1).val ∧ (i 1).val < 0 + 32; omega
    · show 0 ≤ (i 2).val ∧ (i 2).val < 0 + 256; omega

theorem vS_blocks (c : Dev nD) (f : CBuf (F := F) c vS) : (pt c vS f : sProp (MT nD τ sig Unit (Elt F) ℕ (UU nD τ) ℕ)) = bigSep Finset.univ (fun n => ptw c (sSrc n) f) := by
  exact pt_split (ℓ := vS.view.loc (c : Thread nD τ)) (fun b : Fin 44 => (sSrc b).view.set) _ mem_sSrc f
theorem mSO_blocks (c : Dev nD) (f : CBuf (F := F) c mSO) : (pt c mSO f : sProp (MT nD τ sig Unit (Elt F) ℕ (UU nD τ) ℕ)) = bigSep Finset.univ (fun n => ptw c (soDst n) f) := by
  exact pt_split (ℓ := mSO.view.loc (c : Thread nD τ)) (fun b : Fin 44 => (soDst b).view.set) _ mem_soDst f

theorem sSrc_emb (n : Fin 44) (x : S32x256.Idx) :
    (sSrc n).view.emb x = ix2 (x 0) ⟨256 * n.val + (x 1).val, by have h : (x 1).val < 256 := (x 1).isLt; have := n.isLt; omega⟩ := by
  funext a
  apply Fin.ext
  show (![0, 256 * n.val] : Fin 2 → ℕ) a + 1 * (x a).val = _
  fin_cases a
  · show 0 + 1 * (x 0).val = (x 0).val; omega
  · show 256 * n.val + 1 * (x 1).val = 256 * n.val + (x 1).val; omega

theorem soDst_emb (n : Fin 44) (x : S32x256.Idx) : (soDst n).view.emb x = ix3 n (x 0) (x 1) := by
  have e : Shape.reshapeEquiv (s := S1x32x256) Gen.squeezes_S1x32x256_S32x256.numel_eq x = ix3 0 (x 0) (x 1) := by
    refine Shape.reshapeEquiv_eq_of_rowMajor _ ?_
    refine (Shape.rowMajor_val_three (d := S1x32x256.size) _).trans (Eq.trans ?_ (Shape.rowMajor_val_two (d := S32x256.size) _).symm)
    show (0 * 32 + (x 0).val) * 256 + (x 1).val = (x 0).val * 256 + (x 1).val
    omega
  show (Rect.unit (s := S44x32x256) ![n.val, 0, 0] S1x32x256.size (soDst_inb n)).emb
    (Shape.reshapeEquiv (s := S1x32x256) Gen.squeezes_S1x32x256_S32x256.numel_eq x) = _
  rw [e]
  funext a
  apply Fin.ext
  show (![n.val, 0, 0] : Fin 3 → ℕ) a + 1 * (ix3 (0 : Fin 1) (x 0) (x 1) a).val = _
  fin_cases a
  · show n.val + 1 * 0 = n.val; omega
  · show 0 + 1 * (x 0).val = (x 0).val; omega
  · show 0 + 1 * (x 1).val = (x 1).val; omega

/-- The scales as the kernel lays them out. -/
def soGoal (fS : S32x11264.Idx → Elt F .bf16) (i : S44x32x256.Idx) : Elt F .bf16 :=
  fS (ix2 (i 1) ⟨256 * (i 0).val + (i 2).val, by
    have h0 : (i 0).val < 44 := (i 0).isLt
    have h2 : (i 2).val < 256 := (i 2).isLt
    omega⟩)

/-- What copying block `n` delivers: the block written with the columns read, and the columns back. -/
abbrev sLanded (c : Dev nD) (fS : CBuf (F := F) c vS) (fd : CBuf (F := F) c mSO) (n : Fin 44) : CBuf (F := F) c mSO :=
  (soDst n).view.writes (Elt F) fd [⟨Rect.whole S32x256, ReadAs.same.apply ((sSrc n).view.read (Elt F) fS)⟩]
abbrev sD (c : Dev nD) (fS : CBuf (F := F) c vS) (fd : CBuf (F := F) c mSO) (n : Fin 44) : sProp (MT nD τ sig Unit (Elt F) ℕ (UU nD τ) ℕ) :=
  iprop(ptw c (soDst n) (sLanded c fS fd n) ∗ ptw c (sSrc n) fS)

theorem sLanded_eq (c : Dev nD) (fS : CBuf (F := F) c vS) (fd : CBuf (F := F) c mSO) (n : Fin 44) :
    (ptw c (soDst n) (sLanded c fS fd n) : sProp (MT nD τ sig Unit (Elt F) ℕ (UU nD τ) ℕ)) = ptw c (soDst n) (soGoal (F := F) fS : S44x32x256.Idx → Elt F .bf16) := by
  refine pointsTo_congr fun i hi => ?_
  unfold sLanded
  rw [← View.write_univ_eq_writes_whole]
  obtain ⟨x, -, rfl⟩ := Finset.mem_map.mp hi
  rw [View.write_emb_of_mem (v := (soDst n).view) (Val := Elt F) _ _ (Finset.mem_univ x)]
  show fS ((sSrc n).view.emb x) = soGoal (F := F) fS ((soDst n).view.emb x)
  rw [sSrc_emb, soDst_emb]
  rfl

/-- All the blocks delivered: the result holds the scales, and the scratch is back. -/
theorem scales_done (c : Dev nD) (fS : CBuf (F := F) c vS) (fd : CBuf (F := F) c mSO) :
    (bigSep Finset.univ (sD c fS fd) : sProp (MT nD τ sig Unit (Elt F) ℕ (UU nD τ) ℕ)) ⊢ iprop(pt c mSO (soGoal (F := F) fS : S44x32x256.Idx → Elt F .bf16) ∗ pt c vS fS) := by
  rw [mSO_blocks, vS_blocks, show sD c fS fd = (fun n => BI.sep (ptw c (soDst n) (sLanded c fS fd n)) (ptw c (sSrc n) fS)) from rfl, bigSep_sep,
    show (fun n => (ptw c (soDst n) (sLanded c fS fd n) : sProp (MT nD τ sig Unit (Elt F) ℕ (UU nD τ) ℕ))) = _ from funext fun n => sLanded_eq c fS fd n]
  exact .rfl

end Cert.KernelIdeal.Hand

end
-- ==== Proof.Ends.lean ====
/- What the three sets of transfers leave, joined back to whole buffers. -/
module

public import proofs.«01_k».proof.Proof.Scales

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- All chunks landed: the packed words in both places whole, and the chunks' cells empty. -/
theorem q_done (c : Dev nD) (fQ : CBuf (F := F) c mQ) :
    (bigSep Finset.univ (qLanded c fQ) : sProp (MT nD τ sig Unit (Elt F) ℕ (UU nD τ) ℕ))
      ⊢ iprop(pt c vQ (fQ : S256x11264.Idx → Elt F .i32) ∗ pt c mQ fQ ∗ bigSep Finset.univ fun k => semVal ((c : Thread nD τ), SemLoc.dma (qCell k)) 0) := by
  rw [mQ_blocks, vQ_blocks]
  rw [show qLanded c fQ = (fun k => BI.sep (ptw c (qDst k) (fQ : S256x11264.Idx → Elt F .i32)) (BI.sep (ptw c (qSrc k) fQ) (semVal ((c : Thread nD τ), SemLoc.dma (qCell k)) 0))) from rfl,
    bigSep_sep, bigSep_sep]
  exact .rfl

/-- One block of the output buffer, joined from the rows sent and the rows beside them. -/
theorem o_block (c : Dev nD) (k : Fin k0_t3_loop.trips) (f g : CBuf (F := F) c vO) :
    iprop(ptw c (oSrc k) f ∗ vO.view.loc (c : Thread nD τ) ↦[(oBlk k).view.set \ (oSrc k).view.set]{fullShare} g)
      ⊢ (iprop(∃ f : CBuf (F := F) c vO, ptw c (oBlk k) f) : sProp (MT nD τ sig Unit (Elt F) ℕ (UU nD τ) ℕ)) := by
  iintro ⟨H, H'⟩
  iexists _
  iapply (pointsTo_join_subset (oSrc_subset k))
  isplitl [H]; · iexact H
  iexact H'

/-- All blocks sent: the result words whole, and the output buffer whole. -/
theorem o_done (c : Dev nD) (fm : CBuf (F := F) c vM) (ft : CBuf (F := F) c sT) (f₀ : CBuf (F := F) c vO) :
    iprop(bigSep Finset.univ (oD c fm ft) ∗ bigSep Finset.univ (oPad (F := F) c))
      ⊢ (iprop(pt c mW (wGoal fm ft : S16x44x32x1x128.Idx → Elt F .i32) ∗ ∃ f, pt c vO f) : sProp (MT nD τ sig Unit (Elt F) ℕ (UU nD τ) ℕ)) := by
  have h : (bigSep Finset.univ (oD c fm ft) : sProp (MT nD τ sig Unit (Elt F) ℕ (UU nD τ) ℕ)) =
      iprop(bigSep Finset.univ (fun k => ptw c (wDst k) (wGoal fm ft : S16x44x32x1x128.Idx → Elt F .i32)) ∗ bigSep Finset.univ (fun k => iprop(∃ f : CBuf (F := F) c vO, ptw c (oSrc k) f))) := by
    rw [show oD c fm ft = (fun k => BI.sep (ptw c (wDst k) (wGoal fm ft : S16x44x32x1x128.Idx → Elt F .i32)) (iprop(∃ f : CBuf (F := F) c vO, ptw c (oSrc k) f))) from rfl,
      bigSep_sep]
    rfl
  rw [mW_blocks, h]
  iintro ⟨⟨HW, HO⟩, HP⟩
  isplitl [HW]; · iexact HW
  iapply (vO_join c f₀)
  have h2 : iprop(bigSep Finset.univ (fun k => iprop(∃ f : CBuf (F := F) c vO, ptw c (oSrc k) f)) ∗ bigSep Finset.univ (oPad (F := F) c))
      ⊢ (bigSep Finset.univ (fun k => iprop(∃ f : CBuf (F := F) c vO, ptw c (oBlk k) f)) : sProp (MT nD τ sig Unit (Elt F) ℕ (UU nD τ) ℕ)) :=
    ((Entails.of_eq (bigSep_sep (s := Finset.univ) (Φ := fun k => iprop(∃ f : CBuf (F := F) c vO, ptw c (oSrc k) f)) (Ψ := oPad (F := F) c)).symm).trans
    (BI.bigSep_mono fun k _ => (show iprop((∃ f : CBuf (F := F) c vO, ptw c (oSrc k) f) ∗ oPad (F := F) c k) ⊢ iprop(∃ f : CBuf (F := F) c vO, ptw c (oBlk k) f) from by
      unfold oPad; iintro ⟨⟨%f, H⟩, ⟨%g, H'⟩⟩; iapply (o_block c k f g); isplitl [H]; · iexact H
      iexact H')))
  iapply h2
  isplitl [HO]; · iexact HO
  iexact HP

end Cert.KernelIdeal.Hand

end
-- ==== Proof.Tables.lean ====
/- The tables the kernel computes from the group indices, as functions of them: the kernel's own payloads, chained. -/
module

public import proofs.«01_k».proof.Proof.Common

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The group indices as one-hot rows; an element's rank in sorted order, by 128s and the rest. -/
def tv72 (g : IVec S16x128 32) : FVec F S512x128 .f32 := Gen.k0_pay510 (F := F) g
def tv74 : IVec S128x256 32 := iota .tc S128x256 32 [1] Gen.iota_S128x256_d1_w32
def tv102 (g : IVec S16x128 32) : IVec S16x128 32 := Gen.k0_pay513 (F := F) (tv72 g) tv74 Gen.k0_pay511 128#32
def tv104 (g : IVec S16x128 32) : IVec S16x128 32 := Gen.k0_pay514 (F := F) (tv72 g) tv74 Gen.k0_pay511 128#32
def tv106 : IVec S16x128 32 := iota .tc S16x128 32 [1] Gen.iota_S16x128_d1_w32
def tv107 : IVec S16x128 32 := iota .tc S16x128 32 [0] Gen.iota_S16x128_d0_w32
def tv108 : IVec S128x128 32 := iota .tc S128x128 32 [0] Gen.iota_S128x128_d0_w32
def tv111 : FVec F S16x128 .f32 := Gen.k0_pay516
/-- The sums after each pair of rounds. -/
def tv157 (g : IVec S16x128 32) : FVec F S32x128 .f32 :=
  Gen.k0_pay519 (tv102 (F := F) g) (tv104 (F := F) g) Gen.k0_pay515 tv106 tv107 tv108 tv111 (Gen.k0_pay517 (F := F) (tv72 g) tv74 Gen.k0_pay511 128#32)
    (Gen.k0_pay518 (tv72 g) tv74 Gen.k0_pay511 128#32)
def tv203 (g : IVec S16x128 32) : FVec F S32x128 .f32 :=
  Gen.k0_pay522 (tv102 (F := F) g) (tv104 (F := F) g) tv106 tv107 tv108 tv111 (tv157 g) (Gen.k0_pay520 (tv102 (F := F) g) tv107) (Gen.k0_pay521 (tv102 (F := F) g) tv106 tv107)
def tv249 (g : IVec S16x128 32) : FVec F S32x128 .f32 :=
  Gen.k0_pay525 (tv102 (F := F) g) (tv104 (F := F) g) tv106 tv107 tv108 tv111 (tv203 g) (Gen.k0_pay523 (tv102 (F := F) g) tv107) (Gen.k0_pay524 (tv102 (F := F) g) tv106 tv107)
def tv295 (g : IVec S16x128 32) : FVec F S32x128 .f32 :=
  Gen.k0_pay528 (tv102 (F := F) g) (tv104 (F := F) g) tv106 tv107 tv108 tv111 (tv249 g) (Gen.k0_pay526 (tv102 (F := F) g) tv107) (Gen.k0_pay527 (tv102 (F := F) g) tv106 tv107)
def tv341 (g : IVec S16x128 32) : FVec F S32x128 .f32 :=
  Gen.k0_pay531 (tv102 (F := F) g) (tv104 (F := F) g) tv106 tv107 tv108 tv111 (tv295 g) (Gen.k0_pay529 (tv102 (F := F) g) tv107) (Gen.k0_pay530 (tv102 (F := F) g) tv106 tv107)
def tv387 (g : IVec S16x128 32) : FVec F S32x128 .f32 :=
  Gen.k0_pay534 (tv102 (F := F) g) (tv104 (F := F) g) tv106 tv107 tv108 tv111 (tv341 g) (Gen.k0_pay532 (tv102 (F := F) g) tv107) (Gen.k0_pay533 (tv102 (F := F) g) tv106 tv107)
def tv433 (g : IVec S16x128 32) : FVec F S32x128 .f32 :=
  Gen.k0_pay537 (tv102 (F := F) g) (tv104 (F := F) g) tv106 tv107 tv108 tv111 (tv387 g) (Gen.k0_pay535 (tv102 (F := F) g) tv107) (Gen.k0_pay536 (tv102 (F := F) g) tv106 tv107)
/-- For each position of the sorted order: the packed word and the nibble of the element there, the element, and the gather loop's row. -/
def wordOf (g : IVec S16x128 32) : IVec S16x128 32 := Gen.k0_pay541 (F := F) (tv102 (F := F) g) (tv104 (F := F) g) tv106 tv107 tv108 tv111 (tv433 g) (Gen.k0_pay538 (tv102 (F := F) g) tv107) (Gen.k0_pay539 (tv102 (F := F) g) tv106 tv107)
def nibOf (g : IVec S16x128 32) : IVec S16x128 32 := Gen.k0_pay542 (F := F) (tv102 (F := F) g) (tv104 (F := F) g) tv106 tv107 tv108 tv111 (tv433 g) (Gen.k0_pay538 (tv102 (F := F) g) tv107) (Gen.k0_pay539 (tv102 (F := F) g) tv106 tv107)
def permOf (g : IVec S16x128 32) : IVec S16x128 32 := Gen.k0_pay543 (F := F) (tv102 (F := F) g) (tv104 (F := F) g) tv106 tv107 tv108 tv111 (tv433 g) (Gen.k0_pay538 (tv102 (F := F) g) tv107) (Gen.k0_pay539 (tv102 (F := F) g) tv106 tv107)
def tabOf (g : IVec S16x128 32) : IVec S16x128 32 := Gen.k0_pay544 (wordOf (F := F) g) (nibOf (F := F) g)

end Cert.KernelIdeal.Hand

end
-- ==== Proof.Body.lean ====
/- The kernel's body, run once: what it leaves in every buffer. -/
module

public import Idealize.ShloMosaic.Lib.VecWindow
public import proofs.«01_k».proof.Proof.Ends
public import proofs.«01_k».proof.Proof.Tables

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- DMA cell `j` at zero. -/
abbrev cellD (c : Dev nD) (j : DmaSem sig) : sProp (MT nD τ sig Unit (Elt F) ℕ (UU nD τ) ℕ) := semVal ((c : Thread nD τ), SemLoc.dma j) 0

/-- The kernel's body, at its buffers. -/
abbrev wholeB := cc0_gptq_repack (F := F) mQ (Memref.isWhole_whole _) mS (Memref.isWhole_whole _) mG (Memref.isWhole_whole _) mW (Memref.isWhole_whole _) mSO (Memref.isWhole_whole _) mP (Memref.isWhole_whole _) vQ (Memref.isWhole_whole _) vM (Memref.isWhole_whole _) vO (Memref.isWhole_whole _) vS (Memref.isWhole_whole _) vG (Memref.isWhole_whole _) vP (Memref.isWhole_whole _) vT (Memref.isWhole_whole _) sT (Memref.isWhole_whole _) cc0_scratch8 cc0_scratch9 cc0_scratch10 cc0_scratch11 cc0_scratch12

theorem sep16 (Φ : Fin 16 → sProp (MT nD τ sig Unit (Elt F) ℕ (UU nD τ) ℕ)) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) = bigSep Finset.univ Φ :=
  (BI.bigSep_univ_eq_bigSepL [0, 1, 2, 3, 4, 5, 6, 7, 8, 9, 10, 11, 12, 13, 14, 15] (by decide) (by decide) Φ).symm

/-- The cell of the scales' transfers. -/
abbrev dma17 : DmaSem sig := ⟨17, by decide⟩

/-- The chunks' cells, one after another. -/
theorem cells_done (c : Dev nD) : (bigSep (Finset.univ : Finset (Fin k0_t1_loop.trips)) (fun k => semVal ((c : Thread nD τ), SemLoc.dma (qCell k)) 0) : sProp (MT nD τ sig Unit (Elt F) ℕ (UU nD τ) ℕ))
    ⊢ iprop(cellD (F := F) c 0 ∗ cellD (F := F) c 1 ∗ cellD (F := F) c 2 ∗ cellD (F := F) c 3 ∗ cellD (F := F) c 4 ∗ cellD (F := F) c 5 ∗ cellD (F := F) c 6 ∗ cellD (F := F) c 7 ∗ cellD (F := F) c 8 ∗ cellD (F := F) c 9 ∗ cellD (F := F) c 10 ∗ cellD (F := F) c 11 ∗ cellD (F := F) c 12 ∗ cellD (F := F) c 13 ∗ cellD (F := F) c 14 ∗ cellD (F := F) c 15) :=
  Entails.of_eq (sep16 (F := F) (fun k : Fin 16 => semVal ((c : Thread nD τ), SemLoc.dma (qCell k)) 0)).symm

/-- A family over the 44 column blocks, one after another. -/
theorem sep44 (Φ : Fin 44 → sProp (MT nD τ sig Unit (Elt F) ℕ (UU nD τ) ℕ)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43) :=
  BI.bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43] (by decide) (by decide) Φ

/-- A buffer written whole, and copied whole, is what was written. -/
theorem landed_tab (g : sT.view.ty.Contents (Elt F)) (g' : vT.view.ty.Contents (Elt F)) (inb : ∀ a, (![0, 0] : Fin 2 → ℕ) a + S16x128.size a ≤ S16x128.size a)
    (w : S16x128.Idx → Elt F .i32) :
    View.write (Elt F) sT.view g (ReadAs.same.apply (View.read (Elt F) vT.view (vT.view.writes (Elt F) g' [⟨Rect.unit (s := S16x128) ![0, 0] S16x128.size inb, w⟩])))
      Finset.univ = w := by
  refine (View.write_whole_univ _ _ _).trans ?_
  exact View.read_writes_full vT.view g' inb w []
theorem landed_perm (g : mP.view.ty.Contents (Elt F)) (g' : vP.view.ty.Contents (Elt F)) (inb : ∀ a, (![0, 0] : Fin 2 → ℕ) a + S16x128.size a ≤ S16x128.size a)
    (w : S16x128.Idx → Elt F .i32) :
    View.write (Elt F) mP.view g (ReadAs.same.apply (View.read (Elt F) vP.view (vP.view.writes (Elt F) g' [⟨Rect.unit (s := S16x128) ![0, 0] S16x128.size inb, w⟩])))
      Finset.univ = w := by
  refine (View.write_whole_univ _ _ _).trans ?_
  exact View.read_writes_full vP.view g' inb w []

set_option maxHeartbeats 16000000 in
/-- The whole body, run once. -/
theorem bodyRun (c : Dev nD) (fQ : CBuf (F := F) c mQ) (fS : CBuf (F := F) c mS) (fG : CBuf (F := F) c mG) (fW : CBuf (F := F) c mW)
    (fSO : CBuf (F := F) c mSO) (fP : CBuf (F := F) c mP) (gQ : CBuf (F := F) c vQ) (gM : CBuf (F := F) c vM) (gO : CBuf (F := F) c vO)
    (gS : CBuf (F := F) c vS) (gG : CBuf (F := F) c vG) (gP : CBuf (F := F) c vP) (gT : CBuf (F := F) c vT) (gsT : CBuf (F := F) c sT) (W : Waits sig Unit)
    (hT : TabOk (F := F) c (tabOf (F := F) fG)) :
    iprop(pt c mQ fQ ∗ pt c mS fS ∗ pt c mG fG ∗ pt c mW fW ∗ pt c mSO fSO ∗ pt c mP fP ∗ pt c vQ gQ ∗ pt c vM gM ∗ pt c vO gO ∗ pt c vS gS
      ∗ pt c vG gG ∗ pt c vP gP ∗ pt c vT gT ∗ pt c sT gsT ∗ cellD c 0 ∗ cellD c 1 ∗ cellD c 2 ∗ cellD c 3 ∗ cellD c 4 ∗ cellD c 5 ∗ cellD c 6 ∗ cellD c 7 ∗ cellD c 8 ∗ cellD c 9 ∗ cellD c 10 ∗ cellD c 11 ∗ cellD c 12 ∗ cellD c 13 ∗ cellD c 14 ∗ cellD c 15 ∗ cellD c 16 ∗ cellD c 17 ∗ cellD c 18 ∗ cellD c 19 ∗ owes (c : Thread nD τ) 0 W)
    ⊢ wp frame (wpE (defs₀ (F := F)) 𝒱₀ (c : Thread nD τ) none) Set.univ (wholeB (F := F)) (fun _ => iprop(
      (pt c mQ fQ ∗ pt c mS fS ∗ pt c mG fG ∗ pt c mW (wGoal (mGoal fQ) (tabOf (F := F) fG) : S16x44x32x1x128.Idx → Elt F .i32)
        ∗ pt c mSO (soGoal (F := F) fS : S44x32x256.Idx → Elt F .bf16) ∗ pt c mP (permOf (F := F) fG : S16x128.Idx → Elt F .i32))
      ∗ ((∃ f, pt c vQ f) ∗ (∃ f, pt c vM f) ∗ (∃ f, pt c vO f) ∗ (∃ f, pt c vS f) ∗ (∃ f, pt c vG f) ∗ (∃ f, pt c vP f) ∗ (∃ f, pt c vT f) ∗ (∃ f, pt c sT f))
      ∗ (cellD c 0 ∗ cellD c 1 ∗ cellD c 2 ∗ cellD c 3 ∗ cellD c 4 ∗ cellD c 5 ∗ cellD c 6 ∗ cellD c 7 ∗ cellD c 8 ∗ cellD c 9 ∗ cellD c 10 ∗ cellD c 11 ∗ cellD c 12 ∗ cellD c 13 ∗ cellD c 14 ∗ cellD c 15 ∗ cellD c 16 ∗ cellD c 17 ∗ cellD c 18 ∗ cellD c 19) ∗ (∃ W, owes (c : Thread nD τ) 0 W))) := by
  iintro ⟨HQ, HS, HG, HW, HSO, HP, HvQ, HvM, HvO, HvS, HvG, HvP, HvT, HsT, H0, H1, H2, H3, H4, H5, H6, H7, H8, H9, H10, H11, H12, H13, H14, H15, H16, H17, H18, H19, HO⟩
  unfold wholeB
  set_option sl_exec.dmaWindow true in
  set_option sl_exec.dmaWindowLent true in
  sl_exec_parts
  sl_for (t1Inv c fQ) $$ [H0 H1 H2 H3 H4 H5 H6 H7 H8 H9 H10 H11 H12 H13 H14 H15 HvM HO]
  · intro k acc; exact t1_step c (wordOf (F := F) fG) (nibOf (F := F) fG) fQ k acc
  · unfold t1Inv
    rw [Ring.bigSep_rangeSet_empty (Φ := qLanded c fQ) (le_refl 0), Ring.rangeSet_univ]
    isplitr; · iempintro
    isplitr [HvM HO]
    · iapply (Entails.of_eq (sep16 (F := F) (fun k : Fin 16 => qFly c fQ k)))
      isplitl [H0]; · iapply (fly_conv c fQ (0 : Fin 16) gQ _ _ _ _ _ rfl rfl rfl); iexact H0
      isplitl [H1]; · iapply (fly_conv c fQ (1 : Fin 16) gQ _ _ _ _ _ rfl rfl rfl); iexact H1
      isplitl [H2]; · iapply (fly_conv c fQ (2 : Fin 16) gQ _ _ _ _ _ rfl rfl rfl); iexact H2
      isplitl [H3]; · iapply (fly_conv c fQ (3 : Fin 16) gQ _ _ _ _ _ rfl rfl rfl); iexact H3
      isplitl [H4]; · iapply (fly_conv c fQ (4 : Fin 16) gQ _ _ _ _ _ rfl rfl rfl); iexact H4
      isplitl [H5]; · iapply (fly_conv c fQ (5 : Fin 16) gQ _ _ _ _ _ rfl rfl rfl); iexact H5
      isplitl [H6]; · iapply (fly_conv c fQ (6 : Fin 16) gQ _ _ _ _ _ rfl rfl rfl); iexact H6
      isplitl [H7]; · iapply (fly_conv c fQ (7 : Fin 16) gQ _ _ _ _ _ rfl rfl rfl); iexact H7
      isplitl [H8]; · iapply (fly_conv c fQ (8 : Fin 16) gQ _ _ _ _ _ rfl rfl rfl); iexact H8
      isplitl [H9]; · iapply (fly_conv c fQ (9 : Fin 16) gQ _ _ _ _ _ rfl rfl rfl); iexact H9
      isplitl [H10]; · iapply (fly_conv c fQ (10 : Fin 16) gQ _ _ _ _ _ rfl rfl rfl); iexact H10
      isplitl [H11]; · iapply (fly_conv c fQ (11 : Fin 16) gQ _ _ _ _ _ rfl rfl rfl); iexact H11
      isplitl [H12]; · iapply (fly_conv c fQ (12 : Fin 16) gQ _ _ _ _ _ rfl rfl rfl); iexact H12
      isplitl [H13]; · iapply (fly_conv c fQ (13 : Fin 16) gQ _ _ _ _ _ rfl rfl rfl); iexact H13
      isplitl [H14]; · iapply (fly_conv c fQ (14 : Fin 16) gQ _ _ _ _ _ rfl rfl rfl); iexact H14
      iapply (fly_conv c fQ (15 : Fin 16) gQ _ _ _ _ _ rfl rfl rfl); iexact H15
    isplitl [HvM]
    · iexists gM
      isplitr; · ipureintro; intro y hy; omega
      iexact HvM
    iexists _; iexact HO
  iintro %acc HI
  unfold t1Inv
  rw [show Scf.trips k0_t1_loop.lb k0_t1_loop.ub k0_t1_loop.st = k0_t1_loop.trips from rfl, Ring.rangeSet_univ]
  icases HI with ⟨HL, -, ⟨%fm, %hfm, HvM⟩, ⟨%W1, HO⟩⟩
  have em : fm = (mGoal fQ : S45056x128.Idx → BitVec 32) := by
    funext y
    have h0 : (y 0).val < 45056 := (y 0).isLt
    have e : k0_t1_loop.trips = 16 := by decide +kernel
    exact hfm y (by rw [e]; omega)
  subst em
  sl_exec_parts
  -- the values the run computes from the sorted groups are the tables
  have e0 : bodyRun.sl.r (F := F) c fG gG = tv72 (F := F) fG := by
    unfold bodyRun.sl.r tv72
    rw [View.readAt_full, View.read_whole]
    erw [View.write_whole_univ]
    rfl
  have e1 : bodyRun.sl.r_1 (F := F) c fG gG = tv102 (F := F) fG := by unfold bodyRun.sl.r_1 tv102; rw [e0]; rfl
  have e2 : bodyRun.sl.r_2 (F := F) c fG gG = tv104 (F := F) fG := by unfold bodyRun.sl.r_2 tv104; rw [e0]; rfl
  have e5 : bodyRun.sl.r_5 (F := F) c fG gG = tv157 (F := F) fG := by
    unfold bodyRun.sl.r_5 bodyRun.sl.r_4 bodyRun.sl.r_3 tv157; rw [e0, e1, e2]; rfl
  have e8 : bodyRun.sl.r_8 (F := F) c fG gG = tv203 (F := F) fG := by
    unfold bodyRun.sl.r_8 bodyRun.sl.r_7 bodyRun.sl.r_6 tv203; rw [e1, e2, e5]; rfl
  have e11 : bodyRun.sl.r_11 (F := F) c fG gG = tv249 (F := F) fG := by
    unfold bodyRun.sl.r_11 bodyRun.sl.r_10 bodyRun.sl.r_9 tv249; rw [e1, e2, e8]; rfl
  have e14 : bodyRun.sl.r_14 (F := F) c fG gG = tv295 (F := F) fG := by
    unfold bodyRun.sl.r_14 bodyRun.sl.r_13 bodyRun.sl.r_12 tv295; rw [e1, e2, e11]; rfl
  have e17 : bodyRun.sl.r_17 (F := F) c fG gG = tv341 (F := F) fG := by
    unfold bodyRun.sl.r_17 bodyRun.sl.r_16 bodyRun.sl.r_15 tv341; rw [e1, e2, e14]; rfl
  have e20 : bodyRun.sl.r_20 (F := F) c fG gG = tv387 (F := F) fG := by
    unfold bodyRun.sl.r_20 bodyRun.sl.r_19 bodyRun.sl.r_18 tv387; rw [e1, e2, e17]; rfl
  have e23 : bodyRun.sl.r_23 (F := F) c fG gG = tv433 (F := F) fG := by
    unfold bodyRun.sl.r_23 bodyRun.sl.r_22 bodyRun.sl.r_21 tv433; rw [e1, e2, e20]; rfl
  have e26 : bodyRun.sl.r_26 (F := F) c fG gG = wordOf (F := F) fG := by
    unfold bodyRun.sl.r_26 bodyRun.sl.r_25 bodyRun.sl.r_24 wordOf; rw [e1, e2, e23]; rfl
  have e27 : bodyRun.sl.r_27 (F := F) c fG gG = nibOf (F := F) fG := by
    unfold bodyRun.sl.r_27 bodyRun.sl.r_25 bodyRun.sl.r_24 nibOf; rw [e1, e2, e23]; rfl
  have ev : bodyRun.sl.v496 (F := F) c fG gG = tabOf (F := F) fG := by
    refine (show bodyRun.sl.v496 (F := F) c fG gG = Gen.k0_pay544 (bodyRun.sl.r_26 (F := F) c fG gG) (bodyRun.sl.r_27 (F := F) c fG gG) from rfl).trans ?_
    rw [e26, e27]; rfl
  have eT : View.write (Elt F) sT.view gsT (bodyRun.sl.dma5_1 c fG gG gT) Finset.univ = (tabOf (F := F) fG : S16x128.Idx → Elt F .i32) := by
    unfold bodyRun.sl.dma5_1 bodyRun.sl.HvT_1
    rw [ev]
    exact landed_tab gsT gT _ _
  have eP : View.write (Elt F) mP.view fP (bodyRun.sl.dma5 c fG gG gP) Finset.univ = (permOf (F := F) fG : S16x128.Idx → Elt F .i32) := by
    unfold bodyRun.sl.dma5 bodyRun.sl.HvP_1 bodyRun.sl.r_25 bodyRun.sl.r_24
    rw [e1, e2, e23]
    exact landed_perm fP gP _ _
  rw [eT, eP]
  have eS : View.write (Elt F) vS.view gS (bodyRun.sl.dma0_17 c fS) Finset.univ = (fS : S32x11264.Idx → Elt F .bf16) :=
    (View.write_whole_univ _ _ _).trans rfl
  rw [eS]
  ihave H16 := (show cellD (F := F) c 16 ⊢ semVal ((c : Thread nD τ), SemLoc.dma cc0_scratch9.sem) 0 from .rfl) $$ H16
  imod (Transfers.batch_alloc' (Lvl := ℕ) (countersEmb (U := UU nD τ)) (c : Thread nD τ) () 22528 (oD (F := F) c (mGoal fQ) (tabOf (F := F) fG))
    (sm := .dma cc0_scratch9.sem) (E := Set.univ)) $$ H16 with HB
  sl_for (t3Inv (F := F) c (mGoal fQ) (tabOf (F := F) fG)) $$ [HB HvO HW HvM HsT]
  · intro k acc; exact t3_step c (wordOf (F := F) fG) (nibOf (F := F) fG) _ _ hT k acc
  · unfold t3Inv
    rw [Ring.bigSep_rangeSet_empty (Φ := oPad (F := F) c) (le_refl 0), Ring.rangeSet_univ]
    isplitl [HB]; · iexact HB
    isplitl [HvO]
    · iapply ((Entails.of_eq (vO_blocks c gO)).trans (BI.bigSep_mono fun k _ => (show ptw c (oBlk k) gO ⊢ oHeld (F := F) c k from by
        unfold oHeld; iintro H; iexists gO; iexact H)))
      iexact HvO
    isplitl [HW]
    · iapply ((Entails.of_eq (mW_blocks c fW)).trans (BI.bigSep_mono fun k _ => (show ptw c (wDst k) fW ⊢ wHeld (F := F) c k from by
        unfold wHeld; iintro H; iexists fW; iexact H)))
      iexact HW
    isplitr; · iempintro
    isplitl [HvM]; · iexact HvM
    iexact HsT
  iintro %acc3 HI
  unfold t3Inv
  rw [show Scf.trips k0_t3_loop.lb k0_t3_loop.ub k0_t3_loop.st = k0_t3_loop.trips from rfl, Ring.rangeSet_univ]
  icases HI with ⟨HB, -, -, Hpad, HvM, HsT⟩
  sl_exec_parts
  sl_for (t5Inv (F := F) c (mGoal fQ) (tabOf (F := F) fG)) $$ [HB HO]
  · intro k acc; exact t5_step c (wordOf (F := F) fG) (nibOf (F := F) fG) _ _ k acc
  · unfold t5Inv
    isplitr; · ipureintro; omega
    isplitl [HO]; · iexists _; iexact HO
    rw [if_pos (by decide +kernel : 0 < k0_t5_loop.trips), Nat.zero_mul]
    iexact HB
  iintro %acc5 HI
  unfold t5Inv
  rw [show Scf.trips k0_t5_loop.lb k0_t5_loop.ub k0_t5_loop.st = k0_t5_loop.trips from rfl, if_neg (lt_irrefl _)]
  icases HI with ⟨-, ⟨%W5, HO⟩, H16, HOD⟩
  ihave H17 := (show semVal ((c : Thread nD τ), SemLoc.dma dma17) 0 ⊢ semVal ((c : Thread nD τ), SemLoc.dma cc0_scratch10.sem) 0 from .rfl) $$ H17
  imod (Transfers.batch_alloc' (Lvl := ℕ) (countersEmb (U := UU nD τ)) (c : Thread nD τ) () 512 (sD (F := F) c fS fSO)
    (sm := .dma cc0_scratch10.sem) (E := Set.univ)) $$ H17 with HB
  ihave HvS := (Entails.of_eq ((vS_blocks c fS).trans (sep44 _))) $$ HvS
  ihave HSO := (Entails.of_eq ((mSO_blocks c fSO).trans (sep44 _))) $$ HSO
  icases HvS with ⟨A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43⟩
  icases HSO with ⟨B0, B1, B2, B3, B4, B5, B6, B7, B8, B9, B10, B11, B12, B13, B14, B15, B16, B17, B18, B19, B20, B21, B22, B23, B24, B25, B26, B27, B28, B29, B30, B31, B32, B33, B34, B35, B36, B37, B38, B39, B40, B41, B42, B43⟩
  sl_exec_parts
  sl_step
  ihave HD := (show iprop(sD c fS fSO 0 ∗ sD c fS fSO 1 ∗ sD c fS fSO 2 ∗ sD c fS fSO 3 ∗ sD c fS fSO 4 ∗ sD c fS fSO 5 ∗ sD c fS fSO 6 ∗ sD c fS fSO 7 ∗ sD c fS fSO 8 ∗ sD c fS fSO 9 ∗ sD c fS fSO 10 ∗ sD c fS fSO 11 ∗ sD c fS fSO 12 ∗ sD c fS fSO 13 ∗ sD c fS fSO 14 ∗ sD c fS fSO 15 ∗ sD c fS fSO 16 ∗ sD c fS fSO 17 ∗ sD c fS fSO 18 ∗ sD c fS fSO 19 ∗ sD c fS fSO 20 ∗ sD c fS fSO 21 ∗ sD c fS fSO 22 ∗ sD c fS fSO 23 ∗ sD c fS fSO 24 ∗ sD c fS fSO 25 ∗ sD c fS fSO 26 ∗ sD c fS fSO 27 ∗ sD c fS fSO 28 ∗ sD c fS fSO 29 ∗ sD c fS fSO 30 ∗ sD c fS fSO 31 ∗ sD c fS fSO 32 ∗ sD c fS fSO 33 ∗ sD c fS fSO 34 ∗ sD c fS fSO 35 ∗ sD c fS fSO 36 ∗ sD c fS fSO 37 ∗ sD c fS fSO 38 ∗ sD c fS fSO 39 ∗ sD c fS fSO 40 ∗ sD c fS fSO 41 ∗ sD c fS fSO 42 ∗ sD c fS fSO 43) ⊢ bigSep Finset.univ (sD c fS fSO) from Entails.of_eq (sep44 (sD c fS fSO)).symm) $$ [HB_dst0 HB_src0 HB_dst1 HB_src1 HB_dst2 HB_src2 HB_dst3 HB_src3 HB_dst4 HB_src4 HB_dst5 HB_src5 HB_dst6 HB_src6 HB_dst7 HB_src7 HB_dst8 HB_src8 HB_dst9 HB_src9 HB_dst10 HB_src10 HB_dst11 HB_src11 HB_dst12 HB_src12 HB_dst13 HB_src13 HB_dst14 HB_src14 HB_dst15 HB_src15 HB_dst16 HB_src16 HB_dst17 HB_src17 HB_dst18 HB_src18 HB_dst19 HB_src19 HB_dst20 HB_src20 HB_dst21 HB_src21 HB_dst22 HB_src22 HB_dst23 HB_src23 HB_dst24 HB_src24 HB_dst25 HB_src25 HB_dst26 HB_src26 HB_dst27 HB_src27 HB_dst28 HB_src28 HB_dst29 HB_src29 HB_dst30 HB_src30 HB_dst31 HB_src31 HB_dst32 HB_src32 HB_dst33 HB_src33 HB_dst34 HB_src34 HB_dst35 HB_src35 HB_dst36 HB_src36 HB_dst37 HB_src37 HB_dst38 HB_src38 HB_dst39 HB_src39 HB_dst40 HB_src40 HB_dst41 HB_src41 HB_dst42 HB_src42 HB_dst43 HB_src43]
  · isplitl [HB_dst0 HB_src0]
    · isplitl [HB_dst0]; · iexact HB_dst0
      iexact HB_src0
    isplitl [HB_dst1 HB_src1]
    · isplitl [HB_dst1]; · iexact HB_dst1
      iexact HB_src1
    isplitl [HB_dst2 HB_src2]
    · isplitl [HB_dst2]; · iexact HB_dst2
      iexact HB_src2
    isplitl [HB_dst3 HB_src3]
    · isplitl [HB_dst3]; · iexact HB_dst3
      iexact HB_src3
    isplitl [HB_dst4 HB_src4]
    · isplitl [HB_dst4]; · iexact HB_dst4
      iexact HB_src4
    isplitl [HB_dst5 HB_src5]
    · isplitl [HB_dst5]; · iexact HB_dst5
      iexact HB_src5
    isplitl [HB_dst6 HB_src6]
    · isplitl [HB_dst6]; · iexact HB_dst6
      iexact HB_src6
    isplitl [HB_dst7 HB_src7]
    · isplitl [HB_dst7]; · iexact HB_dst7
      iexact HB_src7
    isplitl [HB_dst8 HB_src8]
    · isplitl [HB_dst8]; · iexact HB_dst8
      iexact HB_src8
    isplitl [HB_dst9 HB_src9]
    · isplitl [HB_dst9]; · iexact HB_dst9
      iexact HB_src9
    isplitl [HB_dst10 HB_src10]
    · isplitl [HB_dst10]; · iexact HB_dst10
      iexact HB_src10
    isplitl [HB_dst11 HB_src11]
    · isplitl [HB_dst11]; · iexact HB_dst11
      iexact HB_src11
    isplitl [HB_dst12 HB_src12]
    · isplitl [HB_dst12]; · iexact HB_dst12
      iexact HB_src12
    isplitl [HB_dst13 HB_src13]
    · isplitl [HB_dst13]; · iexact HB_dst13
      iexact HB_src13
    isplitl [HB_dst14 HB_src14]
    · isplitl [HB_dst14]; · iexact HB_dst14
      iexact HB_src14
    isplitl [HB_dst15 HB_src15]
    · isplitl [HB_dst15]; · iexact HB_dst15
      iexact HB_src15
    isplitl [HB_dst16 HB_src16]
    · isplitl [HB_dst16]; · iexact HB_dst16
      iexact HB_src16
    isplitl [HB_dst17 HB_src17]
    · isplitl [HB_dst17]; · iexact HB_dst17
      iexact HB_src17
    isplitl [HB_dst18 HB_src18]
    · isplitl [HB_dst18]; · iexact HB_dst18
      iexact HB_src18
    isplitl [HB_dst19 HB_src19]
    · isplitl [HB_dst19]; · iexact HB_dst19
      iexact HB_src19
    isplitl [HB_dst20 HB_src20]
    · isplitl [HB_dst20]; · iexact HB_dst20
      iexact HB_src20
    isplitl [HB_dst21 HB_src21]
    · isplitl [HB_dst21]; · iexact HB_dst21
      iexact HB_src21
    isplitl [HB_dst22 HB_src22]
    · isplitl [HB_dst22]; · iexact HB_dst22
      iexact HB_src22
    isplitl [HB_dst23 HB_src23]
    · isplitl [HB_dst23]; · iexact HB_dst23
      iexact HB_src23
    isplitl [HB_dst24 HB_src24]
    · isplitl [HB_dst24]; · iexact HB_dst24
      iexact HB_src24
    isplitl [HB_dst25 HB_src25]
    · isplitl [HB_dst25]; · iexact HB_dst25
      iexact HB_src25
    isplitl [HB_dst26 HB_src26]
    · isplitl [HB_dst26]; · iexact HB_dst26
      iexact HB_src26
    isplitl [HB_dst27 HB_src27]
    · isplitl [HB_dst27]; · iexact HB_dst27
      iexact HB_src27
    isplitl [HB_dst28 HB_src28]
    · isplitl [HB_dst28]; · iexact HB_dst28
      iexact HB_src28
    isplitl [HB_dst29 HB_src29]
    · isplitl [HB_dst29]; · iexact HB_dst29
      iexact HB_src29
    isplitl [HB_dst30 HB_src30]
    · isplitl [HB_dst30]; · iexact HB_dst30
      iexact HB_src30
    isplitl [HB_dst31 HB_src31]
    · isplitl [HB_dst31]; · iexact HB_dst31
      iexact HB_src31
    isplitl [HB_dst32 HB_src32]
    · isplitl [HB_dst32]; · iexact HB_dst32
      iexact HB_src32
    isplitl [HB_dst33 HB_src33]
    · isplitl [HB_dst33]; · iexact HB_dst33
      iexact HB_src33
    isplitl [HB_dst34 HB_src34]
    · isplitl [HB_dst34]; · iexact HB_dst34
      iexact HB_src34
    isplitl [HB_dst35 HB_src35]
    · isplitl [HB_dst35]; · iexact HB_dst35
      iexact HB_src35
    isplitl [HB_dst36 HB_src36]
    · isplitl [HB_dst36]; · iexact HB_dst36
      iexact HB_src36
    isplitl [HB_dst37 HB_src37]
    · isplitl [HB_dst37]; · iexact HB_dst37
      iexact HB_src37
    isplitl [HB_dst38 HB_src38]
    · isplitl [HB_dst38]; · iexact HB_dst38
      iexact HB_src38
    isplitl [HB_dst39 HB_src39]
    · isplitl [HB_dst39]; · iexact HB_dst39
      iexact HB_src39
    isplitl [HB_dst40 HB_src40]
    · isplitl [HB_dst40]; · iexact HB_dst40
      iexact HB_src40
    isplitl [HB_dst41 HB_src41]
    · isplitl [HB_dst41]; · iexact HB_dst41
      iexact HB_src41
    isplitl [HB_dst42 HB_src42]
    · isplitl [HB_dst42]; · iexact HB_dst42
      iexact HB_src42
    isplitl [HB_dst43]; · iexact HB_dst43
    iexact HB_src43
  ihave HD := (scales_done c fS fSO) $$ HD
  icases HD with ⟨HSO, HvS⟩
  ihave HL := (q_done c fQ) $$ HL
  icases HL with ⟨HvQ, HQ, HC⟩
  ihave HC := (cells_done (F := F) c) $$ HC
  icases HC with ⟨C0, C1, C2, C3, C4, C5, C6, C7, C8, C9, C10, C11, C12, C13, C14, C15⟩
  ihave HWO := (o_done c (mGoal fQ) (tabOf (F := F) fG) gO) $$ [HOD Hpad]
  · isplitl [HOD]; · iexact HOD
    iexact Hpad
  icases HWO with ⟨HW, HvO⟩
  isplitl [HQ HS HG HW HSO HP]
  · isplitl [HQ]; · iexact HQ
    isplitl [HS]; · iexact HS
    isplitl [HG]; · iexact HG
    isplitl [HW]; · iexact HW
    isplitl [HSO]; · iexact HSO
    iexact HP
  isplitl [HvQ HvM HvO HvS HvG HvP HvT HsT]
  · isplitl [HvQ]; · iexists _; iexact HvQ
    isplitl [HvM]; · iexists _; iexact HvM
    isplitl [HvO]; · iexact HvO
    isplitl [HvS]; · iexists _; iexact HvS
    isplitl [HvG]; · iexists _; iexact HvG
    isplitl [HvP]; · iexists _; iexact HvP
    isplitl [HvT]; · iexists _; iexact HvT
    iexists _; iexact HsT
  isplitr [HO]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [H16]; · iexact H16
    isplitl [HB]; · iexact HB
    isplitl [H18]; · iexact H18
    iexact H19
  iexists _; iexact HO

end Cert.KernelIdeal.Hand

end
-- ==== Proof.Run.lean ====
/- The kernel's launch: what @main leaves in its results, at any float semantics, when the table the kernel sorts stays in range. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

/-- @main around the region, at the algebra with counters. -/
theorem hmain : Pipeline.HMainK (Ix := Unit) (Name := ℕ) (U := UU nD τ) (Lvl := ℕ) cfgs 0 defs₀ 𝒱₀ m (main (F := F)) (Gen.V m)
      (fun _ => Pipeline.chain ([Gen.hostOps1].map StableHlo.seq)) :=
  Pipeline.hmain_around cfgs 0 defs₀ 𝒱₀ m main [Gen.hostOps0] [Gen.hostOps1] (by simp only [List.Forall]; exact Gen.hostOps0_sub)
    (by simp only [List.Forall]; exact Gen.hostOps0_fresh) Gen.main_chain

/-- The body's twenty transfer cells. -/
abbrev osem0 : Fin 20 → SemLoc sig := fun j => SemLoc.dma j
theorem ownSemFacts0 : Pipeline.OwnSemFacts cfg0.spec osem0 := by decide
theorem ownSems_eq (c : Dev nD) :
    (Pipeline.ownSems0 (Ix := Unit) (Name := ℕ) (U := UU nD τ) (Lvl := ℕ) (Val := Elt F) (τ := τ) osem0 c : sProp 𝕄)
      = iprop(cellD c 0 ∗ cellD c 1 ∗ cellD c 2 ∗ cellD c 3 ∗ cellD c 4 ∗ cellD c 5 ∗ cellD c 6 ∗ cellD c 7 ∗ cellD c 8 ∗ cellD c 9 ∗ cellD c 10 ∗ cellD c 11 ∗ cellD c 12 ∗ cellD c 13 ∗ cellD c 14 ∗ cellD c 15 ∗ cellD c 16 ∗ cellD c 17 ∗ cellD c 18 ∗ cellD c 19) := by
  rw [Pipeline.ownSems0_eq_of_list c osem0 [0, 1, 2, 3, 4, 5, 6, 7, 8, 9, 10, 11, 12, 13, 14, 15, 16, 17, 18, 19] (by decide) (by decide)]; rfl

/-- The buffers the body reads, and the ones it writes. -/
def H0 : Finset (Ref sig .tc) := {main_arg0, main_arg1, main_v0}
def R0 : Finset (Ref sig .tc) := {main_v1_0, main_v1_1, main_v1_2}
theorem H0_sub : H0 ⊆ Pipeline.restRefs sig cfg0.spec := by decide
theorem R0_sub : R0 ⊆ Pipeline.restRefs sig cfg0.spec \ H0 := by decide

/-- The three results as the body leaves them. -/
def resW (c : Dev nD) : S16x44x32x1x128.Idx → Elt F .i32 := wGoal (mGoal (Gen.V m c main_arg0)) (tabOf (F := F) (Gen.V m c main_v0))
def resS (c : Dev nD) : S44x32x256.Idx → Elt F .bf16 := soGoal (F := F) (Gen.V m c main_arg1)
def resP (c : Dev nD) : S16x128.Idx → Elt F .i32 := permOf (F := F) (Gen.V m c main_v0)

/-- What every buffer holds when the region ends. -/
def G (c : Dev nD) (b : Ref sig .tc) : Buf (Elt F) ((c.tc : Thread nD τ).loc b) :=
  if h : b = main_v1_0 then h ▸ (resW m c : Buf (Elt F) ((c.tc : Thread nD τ).loc main_v1_0))
  else if h : b = main_v1_1 then h ▸ (resS m c : Buf (Elt F) ((c.tc : Thread nD τ).loc main_v1_1))
  else if h : b = main_v1_2 then h ▸ (resP m c : Buf (Elt F) ((c.tc : Thread nD τ).loc main_v1_2))
  else Gen.V m c b

theorem G_W (c : Dev nD) : G m c main_v1_0 = resW m c := dif_pos rfl
theorem G_S (c : Dev nD) : G m c main_v1_1 = resS m c := by
  unfold G; rw [dif_neg (by decide), dif_pos rfl]
theorem G_P (c : Dev nD) : G m c main_v1_2 = resP m c := by
  unfold G; rw [dif_neg (by decide), dif_neg (by decide), dif_pos rfl]

theorem held_eq (c : Dev nD) :
    (bigSep H0 (fun b => ((c : Thread nD τ).loc b) ↦{fullShare} Gen.V m c b) : sProp 𝕄)
      = iprop(pt c mQ (Gen.V m c main_arg0) ∗ pt c mS (Gen.V m c main_arg1) ∗ pt c mG (Gen.V m c main_v0)) := by
  rw [BI.bigSep_eq_bigSepL_of_eq [main_arg0, main_arg1, main_v0] (by decide) (by decide)]; rfl
theorem written_eq (c : Dev nD) (g : (b : Ref sig .tc) → Buf (Elt F) ((c.tc : Thread nD τ).loc b)) :
    (bigSep R0 (fun b => ((c : Thread nD τ).loc b) ↦{fullShare} g b) : sProp 𝕄)
      = iprop(pt c mW (g main_v1_0) ∗ pt c mSO (g main_v1_1) ∗ pt c mP (g main_v1_2)) := by
  rw [BI.bigSep_eq_bigSepL_of_eq [main_v1_0, main_v1_1, main_v1_2] (by decide) (by decide)]; rfl

theorem Phi_eq (c : Dev nD) (g : (c : Dev nD) → (b : Ref sig .tc) → Buf (Elt F) ((c.tc : Thread nD τ).loc b)) :
    (Pipeline.ΦDRV osem0 cfg0.spec H0 R0 (Gen.V m) g c : sProp 𝕄)
      = iprop(((∃ f, pt c vQ f) ∗ (∃ f, pt c vM f) ∗ (∃ f, pt c vO f) ∗ (∃ f, pt c vS f) ∗ (∃ f, pt c vG f) ∗ (∃ f, pt c vP f) ∗ (∃ f, pt c vT f) ∗ (∃ f, pt c sT f))
        ∗ (cellD c 0 ∗ cellD c 1 ∗ cellD c 2 ∗ cellD c 3 ∗ cellD c 4 ∗ cellD c 5 ∗ cellD c 6 ∗ cellD c 7 ∗ cellD c 8 ∗ cellD c 9 ∗ cellD c 10 ∗ cellD c 11 ∗ cellD c 12 ∗ cellD c 13 ∗ cellD c 14 ∗ cellD c 15 ∗ cellD c 16 ∗ cellD c 17 ∗ cellD c 18 ∗ cellD c 19)
        ∗ (pt c mQ (Gen.V m c main_arg0) ∗ pt c mS (Gen.V m c main_arg1) ∗ pt c mG (Gen.V m c main_v0))
        ∗ (pt c mW (g c main_v1_0) ∗ pt c mSO (g c main_v1_1) ∗ pt c mP (g c main_v1_2))) := by
  unfold Pipeline.ΦDRV
  rw [Gen.scopedRest0_eq, ownSems_eq, written_eq]
  refine congrArg (fun x => BI.sep _ (BI.sep _ (BI.sep x _))) (held_eq m c)

/-- The region's proof data: no windows; the invariant is the buffers, before and after the one point. -/
def dats (_ : Fin 1) (c : Dev nD) : Dat τ (Elt F) Unit ℕ (UU nD τ) ℕ cfg0 c where
  A w := Gen.V m c (Pipeline.arrRef cfg0.spec w)
  after w _ := w.elim0
  Φ t := if t.val = 0 then Pipeline.ΦDRV osem0 cfg0.spec H0 R0 (Gen.V m) (Gen.V m) c else Pipeline.ΦDRV osem0 cfg0.spec H0 R0 (Gen.V m) (G m) c
  q _ := fullShare
  owed _ := 0

theorem defs₀_row (t : Fin cfg0.N) :
    defs₀ (F := F) .tc cfg0.body (cfg0.bodyArgs t (cfg0.slots t)) = wholeB (F := F) := by
  unfold defs₀; rw [Defs.onTc_tc]

theorem body_obligation (hT : ∀ c, TabOk (F := F) c (tabOf (F := F) (Gen.V m c main_v0))) (c : Dev nD) :
    BodyObligation (dats (F := F) m 0 c) (defs₀ (F := F)) 𝒱₀ () Set.univ := fun t => by
  have h0 : t.castSucc.val = 0 := by rw [Gen.fin_N0 t]; rfl
  have h1 : ¬ t.succ.val = 0 := Nat.succ_ne_zero _
  rw [defs₀_row]
  rw [show (dats (F := F) m 0 c).Φ t.castSucc = Pipeline.ΦDRV osem0 cfg0.spec H0 R0 (Gen.V m) (Gen.V m) c from if_pos h0,
    show (dats (F := F) m 0 c).Φ t.succ = Pipeline.ΦDRV osem0 cfg0.spec H0 R0 (Gen.V m) (G m) c from if_neg h1]
  rw [Phi_eq, Phi_eq, G_W, G_S, G_P]
  unfold Dat.owesAt Pipeline.owesWithin
  rw [show (dats m 0 c).owed t.castSucc = 0 from rfl, show (dats m 0 c).owed t.succ = 0 from rfl]
  iintro ⟨⟨⟨⟨%gQ, VQ⟩, ⟨%gM, VM⟩, ⟨%gO, VO⟩, ⟨%gS, VS⟩, ⟨%gG, VG⟩, ⟨%gP, VP⟩, ⟨%gT, VT⟩, ⟨%gsT, ST⟩⟩, ⟨H0, H1, H2, H3, H4, H5, H6, H7, H8, H9, H10, H11, H12, H13, H14, H15, H16, H17, H18, H19⟩, ⟨MQ, MS, MG⟩, ⟨MW, MSO, MP⟩⟩, ⟨%W, -, HO⟩, HE⟩
  ihave HWP := (bodyRun c (Gen.V m c main_arg0) (Gen.V m c main_arg1) (Gen.V m c main_v0) (Gen.V m c main_v1_0) (Gen.V m c main_v1_1) (Gen.V m c main_v1_2)
      gQ gM gO gS gG gP gT gsT W (hT c)) $$ [VQ VM VO VS VG VP VT ST H0 H1 H2 H3 H4 H5 H6 H7 H8 H9 H10 H11 H12 H13 H14 H15 H16 H17 H18 H19 MQ MS MG MW MSO MP HO]
  · iframe
  iapply (wp_wand _ _ _) $$ HWP
  · iintro %x ⟨A1, A2, A3, ⟨%W', HW'⟩⟩
    isplitl [A1 A2 A3]
    · icases A1 with ⟨B1, B2, B3, B4⟩
      isplitl [A2]; · iexact A2
      isplitl [A3]; · iexact A3
      isplitl [B1 B2 B3]
      · isplitl [B1]; · iexact B1
        isplitl [B2]; · iexact B2
        iexact B3
      iexact B4
    isplitl [HW']
    · iexists W'; isplitr; ipureintro; exact fun _ _ => Or.inl trivial
      iexact HW'
    iapply (Entails.of_eq (congrArg (bigSep Finset.univ) (funext fun w : Fin cfg0.W => w.elim0))) $$ HE
  exact iprop(emp)

set_option backward.isDefEq.respectTransparency.types false in
theorem run_main (hT : ∀ c, TabOk (F := F) c (tabOf (F := F) (Gen.V m c main_v0))) :
    θ_run defs (onTc (τ := τ) (main (F := F))) (s₀ m ρ) (fun r => (∀ c : Dev nD, ∀ b ∈ Pipeline.restRefs sig cfg0.spec,
        r.2.mem ((c.tc : Thread nD τ).loc b) = StableHlo.after (List.flatten [Gen.hostOps1]) (Pipeline.withArrays cfg0.spec c (Pipeline.withR (Gen.V0 m c) R0 c (G m c))
          fun w => (dats m 0 c).arrAt w cfg0.N) (Proc.devRef .tc b)) ∧ r.2.sem = fun _ => 0) :=
  Pipeline.θ_run_frame_dmaR_aroundV cfgs (dats m) (0 : Fin 1) Gen.launch0 osem0 defs₀ 𝒱₀ ownSemFacts0 H0 R0 H0_sub R0_sub m ρ main
    (hbody := fun c => (body_obligation m hT c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps) (G := G m)
    (hmain := hmain m) (hA := fun _ w => w.elim0)
    (hin := fun _ => .rfl) (hout := fun _ => .rfl)
    (Q' := _) (hQ' := fun r h => ⟨fun c => (h.1 c).2, h.2⟩)

/-- A buffer no later line writes and the body does not write ends as the region found it. -/
theorem end_arg (c : Dev nD) (A : (w : Fin cfg0.W) → Buf (Elt F) ((cfg0.spec w).arr.view.loc (c.tc : Thread nD τ))) (b : Ref sig .tc) (hb : b ∉ R0) (h2 : b ≠ main_v2) (h3 : b ≠ main_v3) (h4 : b ≠ main_v4) :
    StableHlo.after (List.flatten [Gen.hostOps1]) (Pipeline.withArrays cfg0.spec c (Pipeline.withR (Gen.V0 m c) R0 c (G m c)) A) (Proc.devRef .tc b)
      = Gen.V m c b := by
  rw [StableHlo.after_of_forall_not_mem (b := Proc.devRef .tc b) _ _ (List.forall_iff_forall_mem.mp (by
      simp only [Gen.hostOps1, List.flatten_cons, List.flatten_nil, List.append_nil, List.cons_append,
        List.nil_append, List.Forall, StableHlo.unary_writes, StableHlo.reshape_writes, Finset.mem_singleton]
      exact ⟨StableHlo.devRef_ne_of_ne h2, StableHlo.devRef_ne_of_ne h3, StableHlo.devRef_ne_of_ne h4⟩)),
    Pipeline.withArrays_of_ne _ c _ _ b (fun w => w.elim0), Pipeline.withR_of_not_mem _ R0 c _ b hb]

/-- A buffer of the body's results, as the region leaves it. -/
theorem left_res (c : Dev nD) (A : (w : Fin cfg0.W) → Buf (Elt F) ((cfg0.spec w).arr.view.loc (c.tc : Thread nD τ))) (b : Ref sig .tc) (hb : b ∈ R0) :
    Pipeline.withArrays cfg0.spec c (Pipeline.withR (Gen.V0 m c) R0 c (G m c)) A (Proc.devRef .tc b) = G m c b := by
  rw [Pipeline.withArrays_of_ne _ c _ _ b (fun w => w.elim0), Pipeline.withR_of_mem _ R0 c _ b hb]

theorem end_scales (c : Dev nD) (A : (w : Fin cfg0.W) → Buf (Elt F) ((cfg0.spec w).arr.view.loc (c.tc : Thread nD τ))) :
    StableHlo.after (List.flatten [Gen.hostOps1]) (Pipeline.withArrays cfg0.spec c (Pipeline.withR (Gen.V0 m c) R0 c (G m c)) A) (Proc.devRef .tc main_v1_1)
      = resS m c := by
  rw [StableHlo.after_of_forall_not_mem (b := Proc.devRef .tc main_v1_1) _ _ (List.forall_iff_forall_mem.mp (by
      simp only [Gen.hostOps1, List.flatten_cons, List.flatten_nil, List.append_nil, List.cons_append,
        List.nil_append, List.Forall, StableHlo.unary_writes, StableHlo.reshape_writes, Finset.mem_singleton]
      exact ⟨StableHlo.devRef_ne_of_ne (by decide), StableHlo.devRef_ne_of_ne (by decide), StableHlo.devRef_ne_of_ne (by decide)⟩)),
    left_res m c A main_v1_1 (by decide), G_S]

theorem end_words (c : Dev nD) (A : (w : Fin cfg0.W) → Buf (Elt F) ((cfg0.spec w).arr.view.loc (c.tc : Thread nD τ))) :
    StableHlo.after (List.flatten [Gen.hostOps1]) (Pipeline.withArrays cfg0.spec c (Pipeline.withR (Gen.V0 m c) R0 c (G m c)) A) (Proc.devRef .tc main_v3)
      = shapeCast S16x44x4096x4 (Host.bitcastConvertNarrow S16x44x32x1x128x4 8 (resW m c) Gen.splits_S16x44x32x1x128_w32_S16x44x32x1x128x4_w8) Gen.shapeCasts_S16x44x32x1x128x4_S16x44x4096x4 := by
  rw [← G_W m c, ← left_res m c A main_v1_0 (by decide)]
  simp only [Gen.hostOps1, List.flatten_cons, List.flatten_nil, List.append_nil]
  after_results
  rfl

theorem end_perm (c : Dev nD) (A : (w : Fin cfg0.W) → Buf (Elt F) ((cfg0.spec w).arr.view.loc (c.tc : Thread nD τ))) :
    StableHlo.after (List.flatten [Gen.hostOps1]) (Pipeline.withArrays cfg0.spec c (Pipeline.withR (Gen.V0 m c) R0 c (G m c)) A) (Proc.devRef .tc main_v4)
      = shapeCast S2048 (resP m c) Gen.shapeCasts_S16x128_S2048 := by
  rw [← G_P m c, ← left_res m c A main_v1_2 (by decide)]
  simp only [Gen.hostOps1, List.flatten_cons, List.flatten_nil, List.append_nil]
  after_results
  rfl

/-- What @main leaves, at any float semantics: the three results, the arguments as launched, every counter at zero. -/
theorem run_kernel (hT : ∀ c, TabOk (F := F) c (tabOf (F := F) (Gen.V m c main_v0))) :
    θ_run defs (onTc (τ := τ) (main (F := F))) ⟨m, fun _ => 0, ρ⟩ (fun r => (∀ c : Dev nD,
      (r.2.mem ((c.tc : Thread nD τ).loc main_v3) = shapeCast S16x44x4096x4 (Host.bitcastConvertNarrow S16x44x32x1x128x4 8 (resW m c) Gen.splits_S16x44x32x1x128_w32_S16x44x32x1x128x4_w8) Gen.shapeCasts_S16x44x32x1x128x4_S16x44x4096x4
        ∧ r.2.mem ((c.tc : Thread nD τ).loc main_v1_1) = resS m c
        ∧ r.2.mem ((c.tc : Thread nD τ).loc main_v4) = shapeCast S2048 (resP m c) Gen.shapeCasts_S16x128_S2048)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))) ∧ r.2.sem = fun _ => 0) :=
  (θ_run defs _ _).mono (fun r h => ⟨fun c => ⟨⟨
      (h.1 c main_v3 (Pipeline.mem_restRefs_of main_v3 (by decide) (by decide))).trans (end_words m c _),
      (h.1 c main_v1_1 (Pipeline.mem_restRefs_of main_v1_1 (by decide) (by decide))).trans (end_scales m c _),
      (h.1 c main_v4 (Pipeline.mem_restRefs_of main_v4 (by decide) (by decide))).trans (end_perm m c _)⟩,
      ((h.1 c main_arg0 (Pipeline.mem_restRefs_of main_arg0 (by decide) (by decide))).trans (end_arg m c _ main_arg0 (by decide) (by decide) (by decide) (by decide))).trans (Gen.V_main_arg0 m c),
      ((h.1 c main_arg1 (Pipeline.mem_restRefs_of main_arg1 (by decide) (by decide))).trans (end_arg m c _ main_arg1 (by decide) (by decide) (by decide) (by decide))).trans (Gen.V_main_arg1 m c),
      ((h.1 c main_arg2 (Pipeline.mem_restRefs_of main_arg2 (by decide) (by decide))).trans (end_arg m c _ main_arg2 (by decide) (by decide) (by decide) (by decide))).trans (Gen.V_main_arg2 m c)⟩, h.2⟩)
    (run_main m ρ hT)

/-- The table of groups the body sorts: the third argument, sixteen rows. -/
theorem V_groups (c : Dev nD) : Gen.V m c main_v0 = shapeCast S16x128 (m ((c.tc : Thread nD τ).loc main_arg2)) Gen.shapeCasts_S2048_S16x128 := by
  show StableHlo.after (List.flatten [Gen.hostOps0]) (fun b => m (c, b)) (Proc.devRef .tc main_v0) = _
  simp only [Gen.hostOps0, List.flatten_cons, List.flatten_nil, List.append_nil]
  after_results
  rfl

end Cert.KernelIdeal.Hand

end
-- ==== Proof.Rank.lean ====
/- The rank of an element among all 2048, ordered by group and then by position: its definition, that it is a bijection onto the 2048 places, and the double sum that computes it. -/
module

public import proofs.«01_k».proof.Proof.Tables
public import Idealize.ShloMosaic.Lib.Pointwise

@[expose] public section

set_option maxRecDepth 16384

noncomputable section

namespace Cert.KernelIdeal.Hand

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An element's position in the flat order. -/
def flat (p : Fin 16 × Fin 128) : ℕ := p.1.val * 128 + p.2.val

/-- What elements are ordered by: group first, position second. -/
def key (G : Fin 16 × Fin 128 → ℕ) (p : Fin 16 × Fin 128) : ℕ := G p * 2048 + flat p

/-- How many elements come before this one. -/
def rk (G : Fin 16 × Fin 128 → ℕ) (p : Fin 16 × Fin 128) : ℕ := (Finset.univ.filter fun q => key G q < key G p).card

theorem flat_lt (p : Fin 16 × Fin 128) : flat p < 2048 := by
  have := p.1.isLt; have := p.2.isLt; unfold flat; omega

theorem flat_inj {p q : Fin 16 × Fin 128} (h : flat p = flat q) : p = q := by
  have := p.2.isLt; have := q.2.isLt
  unfold flat at h
  exact Prod.ext (Fin.ext (by omega)) (Fin.ext (by omega))

theorem key_inj {G : Fin 16 × Fin 128 → ℕ} {p q : Fin 16 × Fin 128} (h : key G p = key G q) : p = q := by
  have := flat_lt p; have := flat_lt q
  unfold key at h
  exact flat_inj (by omega)

theorem rk_lt (G : Fin 16 × Fin 128 → ℕ) (p : Fin 16 × Fin 128) : rk G p < 2048 := by
  have h : (Finset.univ.filter fun q => key G q < key G p) ⊂ Finset.univ := by
    refine (Finset.ssubset_iff_of_subset (Finset.filter_subset _ _)).2 ⟨p, Finset.mem_univ _, ?_⟩
    simp
  have := Finset.card_lt_card h
  simpa [rk] using this

/-- Smaller keys have smaller ranks. -/
theorem rk_strict {G : Fin 16 × Fin 128 → ℕ} {p q : Fin 16 × Fin 128} (h : key G p < key G q) : rk G p < rk G q := by
  refine Finset.card_lt_card ((Finset.ssubset_iff_of_subset ?_).2 ⟨p, ?_, ?_⟩)
  · intro x hx
    simp only [Finset.mem_filter, Finset.mem_univ, true_and] at hx ⊢
    omega
  · simpa using h
  · simp

theorem rk_inj {G : Fin 16 × Fin 128 → ℕ} {p q : Fin 16 × Fin 128} (h : rk G p = rk G q) : p = q := by
  rcases lt_trichotomy (key G p) (key G q) with hk | hk | hk
  · have := rk_strict hk; omega
  · exact key_inj hk
  · have := rk_strict hk; omega

/-- Every place holds an element. -/
theorem rk_surj (G : Fin 16 × Fin 128 → ℕ) (n : ℕ) (hn : n < 2048) : ∃ p, rk G p = n := by
  have hb : Function.Bijective (fun p : Fin 16 × Fin 128 => (⟨rk G p, rk_lt G p⟩ : Fin 2048)) :=
    (Fintype.bijective_iff_injective_and_card _).2 ⟨fun p q h => rk_inj (by simpa using h), by simp⟩
  obtain ⟨p, hp⟩ := hb.2 ⟨n, hn⟩
  exact ⟨p, by simpa using hp⟩

/-- The element at a place of the sorted order. -/
def at' (G : Fin 16 × Fin 128 → ℕ) (n : Fin 2048) : Fin 16 × Fin 128 := (rk_surj G n.val n.isLt).choose

theorem rk_at (G : Fin 16 × Fin 128 → ℕ) (n : Fin 2048) : rk G (at' G n) = n.val := (rk_surj G n.val n.isLt).choose_spec

/-- The elements of smaller group, or of the same group and an earlier row; and those of the same row and group before
    it. Together they are the elements before it. -/
theorem rk_sum (G : Fin 16 × Fin 128 → ℕ) (hG : ∀ q, G q < 32) (r : Fin 16) (l : Fin 128) :
    (∑ k : Fin 512, if k.val < G (r, l) * 16 + r.val then ∑ t : Fin 128, (if k.val / 16 = G (⟨k.val % 16, Nat.mod_lt _ (by decide)⟩, t) then 1 else 0) else 0)
      + (∑ t : Fin 128, if t.val < l.val ∧ G (r, l) = G (r, t) then 1 else 0) = rk G (r, l) := by
  have h1 : (∑ k : Fin 512, if k.val < G (r, l) * 16 + r.val then ∑ t : Fin 128, (if k.val / 16 = G (⟨k.val % 16, Nat.mod_lt _ (by decide)⟩, t) then 1 else 0) else 0)
      = ∑ r' : Fin 16, ∑ t : Fin 128, (if G (r', t) * 16 + r'.val < G (r, l) * 16 + r.val then 1 else 0) := by
    rw [← (finProdFinEquiv (m := 32) (n := 16)).sum_comp, Fintype.sum_prod_type, Finset.sum_comm]
    refine Finset.sum_congr rfl fun r' _ => ?_
    have hm : ∀ x : Fin 32, (finProdFinEquiv (x, r')).val = r'.val + 16 * x.val := fun x => rfl
    have hr := r'.isLt
    have : ∀ x : Fin 32, (if (finProdFinEquiv (x, r')).val < G (r, l) * 16 + r.val then ∑ t : Fin 128, (if (finProdFinEquiv (x, r')).val / 16 = G (⟨(finProdFinEquiv (x, r')).val % 16, Nat.mod_lt _ (by decide)⟩, t) then 1 else 0) else 0)
        = ∑ t : Fin 128, (if x.val = G (r', t) then (if G (r', t) * 16 + r'.val < G (r, l) * 16 + r.val then 1 else 0) else 0) := by
      intro x
      have e1 : (⟨(finProdFinEquiv (x, r')).val % 16, Nat.mod_lt _ (by decide)⟩ : Fin 16) = r' := Fin.ext (by show _ % 16 = _; rw [hm]; omega)
      rw [e1, hm, show (r'.val + 16 * x.val) / 16 = x.val by omega]
      split
      · rename_i hlt
        refine Finset.sum_congr rfl fun t _ => ?_
        split
        · rename_i hx; rw [if_pos (by omega)]
        · rfl
      · rename_i hlt
        refine (Finset.sum_eq_zero fun t _ => ?_).symm
        split
        · rename_i hx; rw [if_neg (by omega)]
        · rfl
    rw [Finset.sum_congr rfl fun x _ => this x, Finset.sum_comm]
    refine Finset.sum_congr rfl fun t _ => ?_
    rw [Finset.sum_eq_single (⟨G (r', t), hG _⟩ : Fin 32)]
    · simp
    · intro b _ hb
      rw [if_neg fun h => hb (Fin.ext h)]
    · simp
  have h2 : (∑ t : Fin 128, if t.val < l.val ∧ G (r, l) = G (r, t) then 1 else 0)
      = ∑ r' : Fin 16, ∑ t : Fin 128, (if r' = r ∧ t.val < l.val ∧ G (r, l) = G (r', t) then 1 else 0) := by
    rw [Finset.sum_eq_single r]
    · refine Finset.sum_congr rfl fun t _ => ?_
      simp
    · intro b _ hb
      exact Finset.sum_eq_zero fun t _ => if_neg fun h => hb h.1
    · simp
  rw [h1, h2, ← Finset.sum_add_distrib]
  unfold rk
  rw [Finset.card_filter, Fintype.sum_prod_type]
  refine Finset.sum_congr rfl fun r' _ => ?_
  rw [← Finset.sum_add_distrib]
  refine Finset.sum_congr rfl fun t _ => ?_
  have ht := t.isLt; have hl := l.isLt; have hr := r.isLt; have hr' := r'.isLt
  unfold key flat
  simp only [Fin.ext_iff]
  by_cases ha : r'.val = r.val
  · have : r' = r := Fin.ext ha
    subst this
    generalize G (r', t) = x
    generalize G (r', l) = y
    split_ifs <;> omega
  · generalize G (r', t) = x
    generalize G (r, l) = y
    split_ifs <;> omega

end Cert.KernelIdeal.Hand

end
-- ==== Proof.RankValue.lean ====
/- The kernel's rank computation, over the reals: the one-hot products count the elements that come before. -/
module

public import proofs.«01_k».proof.Proof.Rank

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The groups, as numbers. -/
def grp (g : IVec S16x128 32) (p : Fin 16 × Fin 128) : ℕ := (g (ix2 p.1 p.2)).toNat

/-- A choice by equality of words, by a comparison of small numbers. -/
theorem sel_eq {α : Type} (a : ℕ) (b : BitVec 32) (x y : α) (ha : a < 2 ^ 32) :
    Scalar.select (IntOp.cmpi .eq (BitVec.ofNat 32 a) b) x y = if a = b.toNat then x else y := by
  have h : BitVec.ofNat 32 a = b ↔ a = b.toNat := by
    constructor
    · intro h; rw [← h, BitVec.toNat_ofNat, Nat.mod_eq_of_lt ha]
    · intro h; rw [h, BitVec.ofNat_toNat, BitVec.setWidth_eq]
  unfold Scalar.select IntOp.cmpi
  by_cases hb : a = b.toNat
  · rw [if_pos hb]; simp [h.2 hb]
  · rw [if_neg hb]
    have : ¬ BitVec.ofNat 32 a = b := fun e => hb (h.1 e)
    rw [if_neg]
    rw [show (BitVec.ofNat 32 a == b) = false by simpa using this]
    show ¬ BitVec.ofBool false = 1
    decide

theorem slt_small (a b : ℕ) (ha : a < 2 ^ 31) (hb : b < 2 ^ 31) :
    IntOp.cmpi .slt (BitVec.ofNat 32 a) (BitVec.ofNat 32 b) = if a < b then 1#1 else 0#1 := by
  unfold IntOp.cmpi
  have h : (BitVec.ofNat 32 a).slt (BitVec.ofNat 32 b) = decide (a < b) := by
    rw [BitVec.slt_eq_decide, BitVec.toInt_ofNat', BitVec.toInt_ofNat']
    rw [show (a : ℤ).bmod (2 ^ 32) = a from Int.bmod_eq_of_le (by omega) (by omega), show (b : ℤ).bmod (2 ^ 32) = b from Int.bmod_eq_of_le (by omega) (by omega)]
    simp
  simp only [h]
  split <;> simp [*]

theorem sge_small (a : ℕ) (ha : a < 2 ^ 31) : IntOp.cmpi .sge (BitVec.ofNat 32 a) 128#32 = if 128 ≤ a then 1#1 else 0#1 := by
  unfold IntOp.cmpi
  have h : (128#32 : BitVec 32).sle (BitVec.ofNat 32 a) = decide (128 ≤ a) := by
    rw [BitVec.sle_eq_decide, BitVec.toInt_ofNat', BitVec.toInt_ofNat']
    rw [show (a : ℤ).bmod (2 ^ 32) = a from Int.bmod_eq_of_le (by omega) (by omega), show ((128 : ℕ) : ℤ).bmod (2 ^ 32) = 128 from by decide]
    rw [decide_eq_decide]; omega
  simp only [h]
  split <;> simp [*]

theorem sel_slt {α : Type} (a b : ℕ) (x y : α) (ha : a < 2 ^ 31) (hb : b < 2 ^ 31) :
    Scalar.select (IntOp.cmpi .slt (BitVec.ofNat 32 a) (BitVec.ofNat 32 b)) x y = if a < b then x else y := by
  rw [slt_small a b ha hb]; unfold Scalar.select
  by_cases h : a < b
  · rw [if_pos h, if_pos h]; rfl
  · rw [if_neg h, if_neg h, if_neg (by decide)]

theorem sel_or {α : Type} (a b : ℕ) (x y : α) (ha : a < 2 ^ 31) (hb : b < 2 ^ 31) :
    Scalar.select (IntOp.ori (IntOp.cmpi .slt (BitVec.ofNat 32 a) (BitVec.ofNat 32 b)) (IntOp.cmpi .sge (BitVec.ofNat 32 b) 128#32)) x y
      = if a < b ∨ 128 ≤ b then x else y := by
  rw [slt_small a b ha hb, sge_small b hb]; unfold Scalar.select IntOp.ori
  by_cases h : a < b <;> by_cases h' : 128 ≤ b <;> simp [h, h']

theorem fptosi_nat (n : ℕ) (hn : n < 2 ^ 31) : Ideal.fptosi 32 ((n : ℕ) : EReal) = BitVec.ofNat 32 n := by
  have e : ((n : ℕ) : EReal) = (((n : ℝ)) : EReal) := by simp
  unfold Ideal.fptosi
  rw [e, Ideal.toIntClamped_coe, if_pos (Nat.cast_nonneg n), Int.floor_natCast]
  rw [show max (-(2 ^ (32 - 1) : ℕ) : ℤ) (min (((2 ^ (32 - 1) : ℕ) : ℤ) - 1) (n : ℤ)) = n by
    have : ((2 ^ (32 - 1) : ℕ) : ℤ) = 2147483648 := by norm_num
    rw [this]; omega]
  exact BitVec.ofInt_natCast 32 n

/-- A one-hot row entry is 1 exactly where the row's group is the element's. -/
theorem onehot_apply (g : IVec S16x128 32) (k : Fin 512) (l : Fin 128) :
    (Gen.k0_pay510 (F := Ideal) g) (ix2 k l) = ((if k.val / 16 = grp g (⟨k.val % 16, Nat.mod_lt _ (by decide)⟩, l) then 1 else 0 : ℕ) : EReal) := by
  pointwise [Gen.k0_pay510]
  rw [sel_eq _ _ _ _ (by have := k.isLt; omega)]
  unfold grp
  split <;> simp [*]

/-- The rank payload: the word of the element's rank. -/
theorem rank_apply (g : IVec S16x128 32) (hG : ∀ q, grp g q < 32) (r : Fin 16) (l : Fin 128) :
    (Gen.k0_pay512 (F := Ideal) (tv72 g) tv74 Gen.k0_pay511 128#32) (ix2 r l) = BitVec.ofNat 32 (rk (grp g) (r, l)) := by
  have hr := r.isLt; have hl := l.isLt
  refine Eq.trans ?_ (fptosi_nat (rk (grp g) (r, l)) (lt_trans (rk_lt _ _) (by norm_num)))
  pointwise [Gen.k0_pay512, Gen.k0_pay511, tv74]
  refine congrArg (Ideal.fptosi 32) ?_
  unfold tv72
  simp only [onehot_apply]
  rw [Finset.sum_eq_single (⟨grp g (r, l), hG _⟩ : Fin 32)]
  · have e1 : (⟨(grp g (r, l) * 16 + r.val) % 16, Nat.mod_lt _ (by decide)⟩ : Fin 16) = r := Fin.ext (by show _ % 16 = _; omega)
    have e2 : (grp g (r, l) * 16 + r.val) / 16 = grp g (r, l) := by omega
    have hb := hG (r, l)
    simp only [e1, e2]
    rw [← rk_sum (grp g) hG r l, if_pos trivial, Nat.cast_one, mul_one, Nat.cast_add, Nat.cast_sum, Nat.cast_sum]
    refine congrArg₂ (· + ·) (Finset.sum_congr rfl fun k _ => ?_) (Finset.sum_congr rfl fun t _ => ?_)
    · have hk := k.isLt
      rw [sel_slt _ _ _ _ (by omega) (by omega)]
      by_cases h : k.val < grp g (r, l) * 16 + r.val
      · rw [if_pos h, if_pos h, Nat.cast_sum]
        refine Finset.sum_congr rfl fun t _ => ?_
        have ht := t.isLt
        rw [sel_or _ _ _ _ (by omega) (by omega), if_pos (by omega)]
      · rw [if_neg h, if_neg h, Nat.cast_zero]
    · have ht := t.isLt
      rw [sel_or _ _ _ _ (by omega) (by omega)]
      by_cases h : t.val < l.val
      · rw [if_pos (Or.inl h)]; simp only [h, true_and]
      · rw [if_neg (by omega), if_neg (fun h' => h h'.1), Nat.cast_zero]
  · intro x _ hx
    have : ¬ (x.val * 16 + r.val) / 16 = grp g (⟨(x.val * 16 + r.val) % 16, Nat.mod_lt _ (by decide)⟩, l) := by
      intro h
      have e1 : (⟨(x.val * 16 + r.val) % 16, Nat.mod_lt _ (by decide)⟩ : Fin 16) = r := Fin.ext (by show _ % 16 = _; omega)
      rw [e1] at h
      exact hx (Fin.ext (by show x.val = grp g (r, l); omega))
    rw [if_neg this]; simp
  · simp

end Cert.KernelIdeal.Hand

end
-- ==== Proof.Rounds.lean ====
/- The sixteen rounds that scatter each element's packed word and nibble to its place in the sorted order, over the reals. -/
module

public import proofs.«01_k».proof.Proof.RankValue

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One round: row `h` of the elements is scattered, its words to rows 0 to 15 and its nibbles to rows 16 to 31. -/
def rnd (v102 v104 : IVec S16x128 32) (h : ℕ) (hs : S16x128.Slices ![h, 0] S1x128) (w : BitVec 32) (acc : FVec F S32x128 .f32) : FVec F S32x128 .f32 :=
  addf acc (matmul dot_S32x128_S128x128_S32x128_1_1_0_0_n_n none
    (truncf .bf16 (concatenate S32x128 0
      [⟨S16x128, select (cmpi .eq tv107 (broadcastTo S16x128 (extractStridedSlice S1x128 ![h, 0] v102 hs) Gen.broadcasts_S1x128_S16x128))
          (sitofp .f32 (addi (shrsi tv106 (broadcast S16x128 3#32)) (broadcast S16x128 w))) (broadcast S16x128 (Scalar.ofBits .f32 0x00000000#32))⟩,
       ⟨S16x128, select (cmpi .eq tv107 (broadcastTo S16x128 (extractStridedSlice S1x128 ![h, 0] v102 hs) Gen.broadcasts_S1x128_S16x128))
          tv111 (broadcast S16x128 (Scalar.ofBits .f32 0x00000000#32))⟩] Gen.concatenates_S16x128_S16x128_S32x128_d0) Gen.bitsLt_bf16_f32)
    (truncf .bf16 (select (cmpi .eq tv108 (broadcastTo S128x128 (extractStridedSlice S1x128 ![h, 0] v104 hs) Gen.broadcasts_S1x128_S128x128))
      (broadcast S128x128 (Scalar.ofBits .f32 0x3F800000#32)) (broadcast S128x128 (Scalar.ofBits .f32 0x00000000#32))) Gen.bitsLt_bf16_f32)
    (constant S32x128 .f32 0x00000000#32))

theorem row_slices (h : Fin 16) : S16x128.Slices ![h.val, 0] S1x128 := by
  revert h; decide

def rndF (g : IVec S16x128 32) (a : FVec F S32x128 .f32) (h : Fin 16) : FVec F S32x128 .f32 :=
  rnd (tv102 (F := F) g) (tv104 (F := F) g) h.val (row_slices h) (BitVec.ofNat 32 (16 * h.val)) a

theorem tv157_eq (g : IVec S16x128 32) : tv157 (F := F) g = [0, 1].foldl (rndF g) Gen.k0_pay515 := rfl
theorem tv203_eq (g : IVec S16x128 32) : tv203 (F := F) g = [2, 3].foldl (rndF g) (tv157 g) := rfl
theorem tv249_eq (g : IVec S16x128 32) : tv249 (F := F) g = [4, 5].foldl (rndF g) (tv203 g) := rfl
theorem tv295_eq (g : IVec S16x128 32) : tv295 (F := F) g = [6, 7].foldl (rndF g) (tv249 g) := rfl
theorem tv341_eq (g : IVec S16x128 32) : tv341 (F := F) g = [8, 9].foldl (rndF g) (tv295 g) := rfl
theorem tv387_eq (g : IVec S16x128 32) : tv387 (F := F) g = [10, 11].foldl (rndF g) (tv341 g) := rfl
theorem tv433_eq (g : IVec S16x128 32) : tv433 (F := F) g = [12, 13].foldl (rndF g) (tv387 g) := rfl

/-- The accumulated rounds, read as integers. -/
def accI (g : IVec S16x128 32) : IVec S32x128 32 :=
  Gen.k0_pay540 (F := F) (tv102 (F := F) g) (tv104 (F := F) g) tv106 tv107 tv108 tv111 (tv433 g) (Gen.k0_pay538 (tv102 (F := F) g) tv107) (Gen.k0_pay539 (tv102 (F := F) g) tv106 tv107)

theorem accI_eq (g : IVec S16x128 32) : accI (F := F) g = fptosi 32 ([14, 15].foldl (rndF g) (tv433 (F := F) g)) := rfl

theorem accI_all (g : IVec S16x128 32) : accI (F := F) g = fptosi 32 ((List.finRange 16).foldl (rndF g) (Gen.k0_pay515 (F := F))) := by
  rw [accI_eq, tv433_eq, tv387_eq, tv341_eq, tv295_eq, tv249_eq, tv203_eq, tv157_eq,
    show List.finRange 16 = [0, 1] ++ [2, 3] ++ [4, 5] ++ [6, 7] ++ [8, 9] ++ [10, 11] ++ [12, 13] ++ [14, 15] from by decide]
  simp only [List.foldl_append]

theorem shr3 : ∀ m : Fin 128, IntOp.shrsi .vector (BitVec.ofNat 32 m.val) 3#32 = BitVec.ofNat 32 (m.val / 8) := by decide +kernel
theorem and7 : ∀ m : Fin 128, IntOp.andi (BitVec.ofNat 32 m.val) 7#32 = BitVec.ofNat 32 (m.val % 8) := by decide +kernel
theorem shr7 : ∀ m : Fin 2048, IntOp.shrsi .vector (BitVec.ofNat 32 m.val) 7#32 = BitVec.ofNat 32 (m.val / 128) := by decide +kernel
theorem and127 : ∀ m : Fin 2048, IntOp.andi (BitVec.ofNat 32 m.val) 127#32 = BitVec.ofNat 32 (m.val % 128) := by decide +kernel

/-- The rank, by blocks of 128 and the rest. -/
theorem hi_apply (g : IVec S16x128 32) (hG : ∀ q, grp g q < 32) (r : Fin 16) (l : Fin 128) :
    tv102 (F := Ideal) g (ix2 r l) = BitVec.ofNat 32 (rk (grp g) (r, l) / 128) :=
  (congrArg (IntOp.shrsi .vector · 7#32) (rank_apply g hG r l)).trans (shr7 ⟨rk (grp g) (r, l), rk_lt _ _⟩)
theorem lo_apply (g : IVec S16x128 32) (hG : ∀ q, grp g q < 32) (r : Fin 16) (l : Fin 128) :
    tv104 (F := Ideal) g (ix2 r l) = BitVec.ofNat 32 (rk (grp g) (r, l) % 128) :=
  (congrArg (IntOp.andi · 127#32) (rank_apply g hG r l)).trans (and127 ⟨rk (grp g) (r, l), rk_lt _ _⟩)

theorem sitofp_nat (n : ℕ) (hn : n < 2 ^ 31) : (FloatOps.sitofp (F := Ideal) (w := 32) .f32 (BitVec.ofNat 32 n)) = ((n : ℕ) : EReal) := by
  show (((BitVec.ofNat 32 n).toInt : ℝ) : EReal) = _
  rw [BitVec.toInt_ofNat', show (n : ℤ).bmod (2 ^ 32) = n from Int.bmod_eq_of_le (by omega) (by omega)]
  simp

/-- What element `p` contributes to row `i`. -/
def part (i : Fin 32) (p : Fin 16 × Fin 128) : ℕ := if i.val < 16 then flat p / 8 else flat p % 8

/-- One round adds the element of row `h` that belongs at this place, if there is one. -/
theorem rndF_apply (g : IVec S16x128 32) (hG : ∀ q, grp g q < 32) (a : FVec Ideal S32x128 .f32) (h : Fin 16) (i : Fin 32) (l : Fin 128) :
    rndF g a h (ix2 i l) = a (ix2 i l) + ((∑ m : Fin 128, if rk (grp g) (h, m) = 128 * (i.val % 16) + l.val then part i (h, m) else 0 : ℕ) : EReal) := by
  have hh := h.isLt; have hi := i.isLt; have hl := l.isLt
  pointwise [rndF, rnd, tv106, tv107, tv108, tv111, Gen.k0_pay516]
  rw [Nat.cast_sum]
  refine congrArg (_ + ·) (Finset.sum_congr rfl fun m _ => ?_)
  have hm := m.isLt
  have hR := rk_lt (grp g) (h, m)
  have hf : flat (h, m) = h.val * 128 + m.val := rfl
  rw [hi_apply g hG, lo_apply g hG, sel_eq _ _ _ _ (by omega), BitVec.toNat_ofNat, Nat.mod_eq_of_lt (by omega : rk (grp g) (h, m) % 128 < 2 ^ 32)]
  unfold part
  by_cases hi16 : i.val < 16
  · rw [dif_pos hi16, sel_eq _ _ _ _ (by omega), BitVec.toNat_ofNat, Nat.mod_eq_of_lt (by omega : rk (grp g) (h, m) / 128 < 2 ^ 32), shr3 m,
      show IntOp.addi (BitVec.ofNat 32 (m.val / 8)) (BitVec.ofNat 32 (16 * h.val)) = BitVec.ofNat 32 (flat (h, m) / 8) from by
        unfold IntOp.addi; rw [← BitVec.ofNat_add, hf]; congr 1; omega,
      sitofp_nat _ (by omega), if_pos hi16]
    by_cases h1 : l.val = rk (grp g) (h, m) % 128
    · rw [if_pos h1]
      by_cases h2 : i.val = rk (grp g) (h, m) / 128
      · rw [if_pos h2, if_pos (by omega)]
      · rw [if_neg h2, if_neg (by omega), Nat.cast_zero]
    · rw [if_neg h1, if_neg (by omega), Nat.cast_zero]
  · rw [dif_neg hi16, sel_eq _ _ _ _ (by omega), BitVec.toNat_ofNat, Nat.mod_eq_of_lt (by omega : rk (grp g) (h, m) / 128 < 2 ^ 32), and7 m,
      show m.val % 8 = flat (h, m) % 8 from by rw [hf]; omega,
      sitofp_nat _ (by omega), if_neg hi16]
    by_cases h1 : l.val = rk (grp g) (h, m) % 128
    · rw [if_pos h1]
      by_cases h2 : i.val - 16 = rk (grp g) (h, m) / 128
      · rw [if_pos h2, if_pos (by omega)]
      · rw [if_neg h2, if_neg (by omega), Nat.cast_zero]
    · rw [if_neg h1, if_neg (by omega), Nat.cast_zero]

/-- The rounds together: the sum of what each adds. -/
theorem rounds_apply (g : IVec S16x128 32) (hG : ∀ q, grp g q < 32) (L : List (Fin 16)) (a : FVec Ideal S32x128 .f32) (i : Fin 32) (l : Fin 128) (n : ℕ)
    (ha : a (ix2 i l) = (n : EReal)) :
    L.foldl (rndF g) a (ix2 i l)
      = ((n + (L.map fun h => ∑ m : Fin 128, if rk (grp g) (h, m) = 128 * (i.val % 16) + l.val then part i (h, m) else 0).sum : ℕ) : EReal) := by
  induction L generalizing a n with
  | nil => simpa using ha
  | cons h L ih =>
    rw [List.foldl_cons, ih (rndF g a h) (n + _) (by rw [rndF_apply g hG, ha, ← Nat.cast_add])]
    simp only [List.map_cons, List.sum_cons, Nat.add_assoc]

/-- The element at a place of the sorted order. -/
def elt (g : IVec S16x128 32) (i : Fin 16) (l : Fin 128) : Fin 16 × Fin 128 := at' (grp g) ⟨128 * i.val + l.val, by omega⟩

theorem rk_elt (g : IVec S16x128 32) (i : Fin 16) (l : Fin 128) : rk (grp g) (elt g i l) = 128 * i.val + l.val := rk_at _ _

/-- Just one element belongs at a place. -/
theorem place_sum (g : IVec S16x128 32) (f : Fin 16 × Fin 128 → ℕ) (i : Fin 16) (l : Fin 128) :
    ((List.finRange 16).map fun h => ∑ m : Fin 128, if rk (grp g) (h, m) = 128 * i.val + l.val then f (h, m) else 0).sum = f (elt g i l) := by
  have h1 : ((List.finRange 16).map fun h => ∑ m : Fin 128, if rk (grp g) (h, m) = 128 * i.val + l.val then f (h, m) else 0).sum
      = ∑ h : Fin 16, ∑ m : Fin 128, if rk (grp g) (h, m) = 128 * i.val + l.val then f (h, m) else 0 := (Fin.sum_univ_def _).symm
  have h2 : (∑ p : Fin 16 × Fin 128, if rk (grp g) p = 128 * i.val + l.val then f p else 0)
      = ∑ h : Fin 16, ∑ m : Fin 128, if rk (grp g) (h, m) = 128 * i.val + l.val then f (h, m) else 0 := Fintype.sum_prod_type _
  rw [h1, ← h2, Finset.sum_eq_single (elt g i l)]
  · exact if_pos (rk_elt g i l)
  · intro b _ hb
    exact if_neg fun h => hb (rk_inj (h.trans (rk_elt g i l).symm))
  · intro h; exact absurd (Finset.mem_univ _) h

theorem part_lt (i : Fin 32) (p : Fin 16 × Fin 128) : part i p < 2 ^ 31 := by
  have := flat_lt p
  unfold part
  split <;> omega

/-- What the rounds leave, read as integers. -/
theorem accI_apply (g : IVec S16x128 32) (hG : ∀ q, grp g q < 32) (i : Fin 32) (j : Fin 16) (hj : i.val % 16 = j.val) (l : Fin 128) :
    accI (F := Ideal) g (ix2 i l) = BitVec.ofNat 32 (part i (elt g j l)) := by
  have hz : (Gen.k0_pay515 (F := Ideal)) (ix2 i l) = ((0 : ℕ) : EReal) := by
    pointwise [Gen.k0_pay515]
    simp
  have h := rounds_apply g hG (List.finRange 16) _ i l 0 hz
  rw [hj, Nat.zero_add, place_sum g (part i) j l] at h
  rw [accI_all]
  refine Eq.trans ?_ (fptosi_nat _ (part_lt i (elt g j l)))
  rw [← h]
  rfl

/-- The tables: the packed word and the nibble of the element at each place, the element, and the row to gather. -/
theorem wordOf_apply (g : IVec S16x128 32) (hG : ∀ q, grp g q < 32) (i : Fin 16) (l : Fin 128) :
    wordOf (F := Ideal) g (ix2 i l) = BitVec.ofNat 32 (flat (elt g i l) / 8) := by
  have h := accI_apply g hG ⟨i.val, by omega⟩ i (Nat.mod_eq_of_lt i.isLt) l
  rw [show part ⟨i.val, by omega⟩ (elt g i l) = flat (elt g i l) / 8 from if_pos i.isLt] at h
  refine Eq.trans ?_ h
  pointwise [wordOf, Gen.k0_pay541]
  rfl
theorem nibOf_apply (g : IVec S16x128 32) (hG : ∀ q, grp g q < 32) (i : Fin 16) (l : Fin 128) :
    nibOf (F := Ideal) g (ix2 i l) = BitVec.ofNat 32 (flat (elt g i l) % 8) := by
  have h := accI_apply g hG ⟨16 + i.val, by omega⟩ i (by show (16 + i.val) % 16 = i.val; omega) l
  rw [show part ⟨16 + i.val, by omega⟩ (elt g i l) = flat (elt g i l) % 8 from if_neg (by show ¬ 16 + i.val < 16; omega)] at h
  refine Eq.trans ?_ h
  pointwise [nibOf, Gen.k0_pay542]
  rfl
theorem permOf_apply (g : IVec S16x128 32) (hG : ∀ q, grp g q < 32) (i : Fin 16) (l : Fin 128) :
    permOf (F := Ideal) g (ix2 i l) = BitVec.ofNat 32 (flat (elt g i l)) := by
  have h1 := wordOf_apply g hG i l
  have h2 := nibOf_apply g hG i l
  have e : permOf (F := Ideal) g (ix2 i l) = IntOp.addi (IntOp.muli (wordOf (F := Ideal) g (ix2 i l)) 8#32) (nibOf (F := Ideal) g (ix2 i l)) := by
    unfold permOf Gen.k0_pay543
    rw [shapeCast_self]
    rfl
  rw [e, h1, h2]
  unfold IntOp.addi IntOp.muli
  rw [← BitVec.ofNat_mul, ← BitVec.ofNat_add]
  congr 1; omega
theorem tabOf_apply (g : IVec S16x128 32) (hG : ∀ q, grp g q < 32) (i : Fin 16) (l : Fin 128) :
    tabOf (F := Ideal) g (ix2 i l) = BitVec.ofNat 32 ((flat (elt g i l) % 8 * 256 + flat (elt g i l) / 8) * 22) := by
  have e : tabOf (F := Ideal) g (ix2 i l) = IntOp.muli (IntOp.addi (IntOp.muli (nibOf (F := Ideal) g (ix2 i l)) 256#32) (wordOf (F := Ideal) g (ix2 i l))) 22#32 := by
    unfold tabOf Gen.k0_pay544
    rw [shapeCast_self]
    rfl
  rw [e, wordOf_apply g hG, nibOf_apply g hG]
  unfold IntOp.addi IntOp.muli
  rw [← BitVec.ofNat_mul, ← BitVec.ofNat_add, ← BitVec.ofNat_mul]

end Cert.KernelIdeal.Hand

end
-- ==== Proof.Sort.lean ====
/- The stable host sort of the positions by their group: it puts at every place the element of that rank. -/
module

public import proofs.«01_k».proof.Proof.Rounds
public import proofs.«01_k».proof.Proof.Gen.ReferenceIdeal
public import Idealize.ShloMosaic.Lib.SortFacts

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic (sortedFrom stableSort insertBefore sortPositions)

/-- Sorting a list of rising positions by a key, earlier positions first among equal keys, is sorting it by key and
    position. -/
theorem stableSort_keyed {n : ℕ} (K : Fin n → ℕ) (l : List (Fin n)) (hl : l.Pairwise (· < ·)) :
    stableSort (fun a b => decide (K a < K b)) l = stableSort (fun a b => decide (K a * n + a.val < K b * n + b.val)) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.1 hb
    have hab : a.val < b.val := hl.1 b hb'
    have hbn := b.isLt
    refine decide_eq_decide.2 ⟨fun h => ?_, fun h => ?_⟩
    · have := Nat.mul_le_mul_right n (Nat.succ_le_of_lt h); rw [Nat.succ_mul] at this; omega
    · by_contra hc
      have := Nat.mul_le_mul_right n (Nat.le_of_not_lt hc); omega

/-- The order the stable sort puts the positions in rises in key and position. -/
theorem sorted_keyed {n : ℕ} (K : Fin n → ℕ) (i j : Fin n) (hij : i < j) :
    K (sortedFrom (fun a b => decide (K a < K b)) i) * n + (sortedFrom (fun a b => decide (K a < K b)) i).val
      ≤ K (sortedFrom (fun a b => decide (K a < K b)) j) * n + (sortedFrom (fun a b => decide (K a < K b)) j).val := by
  have e : sortedFrom (fun a b : Fin n => decide (K a < K b)) = sortedFrom (fun a b => decide (K a * n + a.val < K b * n + b.val)) := by
    funext k
    unfold sortedFrom
    rw [List.get_of_eq (show sortPositions n (fun a b => decide (K a < K b)) = sortPositions n _ from stableSort_keyed K (List.finRange n) (List.pairwise_lt_finRange n))]
    rfl
  rw [e]
  have h := sortedFrom_noInversion (n := n) (fun a b => decide (K a * n + a.val < K b * n + b.val)) (fun a b => decide (K a * n + a.val < K b * n + b.val))
    (fun a b h => by simp only [decide_eq_true_eq, decide_eq_false_iff_not] at h ⊢; omega) (fun _ _ h => h)
    (fun a b c h₁ h₂ => by simp only [decide_eq_false_iff_not] at h₁ h₂ ⊢; omega) i j hij
  simpa using h

/-- The element at a flat position. -/
def unflat (k : Fin 2048) : Fin 16 × Fin 128 := (⟨k.val / 128, by omega⟩, ⟨k.val % 128, Nat.mod_lt _ (by decide)⟩)

theorem flat_unflat (k : Fin 2048) : flat (unflat k) = k.val := by
  show k.val / 128 * 128 + k.val % 128 = k.val
  omega

/-- An arrangement of the flat positions rising in group and position puts at every place the element of that rank. -/
theorem rank_of_rising (g : IVec S16x128 32) (σ : Fin 2048 → Fin 2048) (hinj : Function.Injective σ)
    (hσ : ∀ a b, a < b → grp g (unflat (σ a)) * 2048 + (σ a).val ≤ grp g (unflat (σ b)) * 2048 + (σ b).val) (n : Fin 2048) :
    rk (grp g) (unflat (σ n)) = n.val := by
  have hk : ∀ k, key (grp g) (unflat k) = grp g (unflat k) * 2048 + k.val := fun k => by unfold key; rw [flat_unflat]
  have hr : StrictMono (fun k : Fin 2048 => (⟨rk (grp g) (unflat (σ k)), rk_lt _ _⟩ : Fin 2048)) := fun a b hab => by
    have h1 := hσ a b hab
    have h2 : (σ a) ≠ σ b := fun h => (ne_of_lt hab) (hinj h)
    refine rk_strict ?_
    rw [hk, hk]
    refine lt_of_le_of_ne h1 fun h => h2 ?_
    have h3 : key (grp g) (unflat (σ a)) = key (grp g) (unflat (σ b)) := by rw [hk, hk]; exact h
    have h4 := congrArg flat (key_inj h3)
    rw [flat_unflat, flat_unflat] at h4
    exact Fin.ext h4
  exact congrArg Fin.val (le_antisymm (hr.apply_le (x := n)) (hr.le_apply (x := n)))

/-- The host's sort of a table of words and their positions reads the positions at one arrangement. -/
theorem sort2_rank1 {n : ℕ} {α β : Type} (cmp : α × β → α × β → BitVec 1) (x : (⟨1, ![n]⟩ : Shape).Idx → α) (y : (⟨1, ![n]⟩ : Shape).Idx → β) (k : Fin n) :
    (Host.sort2 ⟨1, ![n]⟩ 0 cmp x y).2 (Shape.Idx.ofFin k)
      = y (Shape.Idx.ofFin (sortedFrom (fun a b => cmp (x (Shape.Idx.ofFin a), y (Shape.Idx.ofFin a)) (x (Shape.Idx.ofFin b), y (Shape.Idx.ofFin b)) == 1#1) k)) := by
  rw [Host.sort2_eq_sortBy]
  unfold Host.sortBy
  simp

/-- The same, for a comparison that is of the first words alone and of small ones: the arrangement rises in word and
    position. -/
theorem sort2_rising {n : ℕ} (cmp : BitVec 32 × BitVec 32 → BitVec 32 × BitVec 32 → BitVec 1)
    (hc : ∀ a b, cmp a b = IntOp.cmpi .slt a.1 b.1) (x y : (⟨1, ![n]⟩ : Shape).Idx → BitVec 32) (hx : ∀ k, (x k).toNat < 32) :
    ∃ σ : Fin n → Fin n, Function.Injective σ
      ∧ (∀ i j, i < j → (x (Shape.Idx.ofFin (σ i))).toNat * n + (σ i).val ≤ (x (Shape.Idx.ofFin (σ j))).toNat * n + (σ j).val)
      ∧ ∀ k, (Host.sort2 ⟨1, ![n]⟩ 0 cmp x y).2 (Shape.Idx.ofFin k) = y (Shape.Idx.ofFin (σ k)) := by
  have hb : (fun a b : Fin n => (cmp (x (Shape.Idx.ofFin a), y (Shape.Idx.ofFin a)) (x (Shape.Idx.ofFin b), y (Shape.Idx.ofFin b)) == 1#1))
      = fun a b => decide ((x (Shape.Idx.ofFin a)).toNat < (x (Shape.Idx.ofFin b)).toNat) := by
    funext a b
    rw [hc]
    have h1 := hx (Shape.Idx.ofFin a)
    have h2 := hx (Shape.Idx.ofFin b)
    have e1 : (x (Shape.Idx.ofFin a)).toInt = ((x (Shape.Idx.ofFin a)).toNat : ℤ) := BitVec.toInt_eq_toNat_of_lt (by omega)
    have e2 : (x (Shape.Idx.ofFin b)).toInt = ((x (Shape.Idx.ofFin b)).toNat : ℤ) := BitVec.toInt_eq_toNat_of_lt (by omega)
    show ((BitVec.ofBool ((x (Shape.Idx.ofFin a)).slt (x (Shape.Idx.ofFin b)))) == 1#1) = _
    rw [BitVec.slt_eq_decide, e1, e2]
    by_cases h : (x (Shape.Idx.ofFin a)).toNat < (x (Shape.Idx.ofFin b)).toNat
    · simp [h]
    · simp [h]
  refine ⟨sortedFrom fun a b => decide ((x (Shape.Idx.ofFin a)).toNat < (x (Shape.Idx.ofFin b)).toNat), sortedFrom_injective _,
    fun i j hij => sorted_keyed (fun k => (x (Shape.Idx.ofFin k)).toNat) i j hij, fun k => ?_⟩
  rw [sort2_rank1, hb]

/-- The host's sort of the positions by group, as printed. -/
theorem argsort_apply (x : IVec Cert.ReferenceIdeal.S2048 32) (g : IVec S16x128 32) (hx : ∀ k, (x k).toNat < 32)
    (hg : ∀ k : Fin 2048, grp g (unflat k) = (x (Shape.Idx.ofFin k)).toNat) (n : Fin 2048) (i : Fin 16) (l : Fin 128) (hn : n.val = 128 * i.val + l.val) :
    (Host.sort2 Cert.ReferenceIdeal.S2048 0 Cert.ReferenceIdeal.comparator_i32_i32_d0 x (iotaInDim Cert.ReferenceIdeal.S2048 32 0)).2 (Shape.Idx.ofFin n)
      = BitVec.ofNat 32 (flat (elt g i l)) := by
  obtain ⟨σ, hinj, hσ, hs⟩ := sort2_rising (n := 2048) Cert.ReferenceIdeal.comparator_i32_i32_d0 (fun _ _ => rfl) x (iotaInDim Cert.ReferenceIdeal.S2048 32 0) hx
  have h5 := rank_of_rising g σ hinj (fun a b hab => by rw [hg, hg]; exact hσ a b hab) n
  rw [hn, ← rk_elt g i l] at h5
  refine (hs n).trans ?_
  show BitVec.ofNat 32 (σ n).val = _
  rw [← flat_unflat, rk_inj h5]

end Cert.KernelIdeal.Hand

end
-- ==== Proof.Groups.lean ====
/- What the precondition says of the groups, and that the kernel's table then stays in range. -/
module

public import proofs.«01_k».proof.Proof.Run
public import Idealize.ShloMosaic.Lib.Pipeline.Value
public import proofs.«01_k».proof.Proof.Rounds
public import proofs.«01_k».proof.Proof.Sort
public import proofs.«01_k».proof.Proof.Gen.Pre_groups_valid

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Under the precondition every group is below 32. -/
theorem groups_lt (a0 : IVec Cert.Pre_groups_valid.S256x11264 32) (a1 : FVec Ideal Cert.Pre_groups_valid.S32x11264 .bf16) (x : IVec Cert.Pre_groups_valid.S2048 32)
    (h : Cert.Pre_groups_valid.fn (F := Ideal) a0 a1 x = fun _ => 1#1) (k : Cert.Pre_groups_valid.S2048.Idx) : (x k).toNat < 32 := by
  have hk : IntOp.andi (IntOp.cmpi .sge (x k) 0#32) (IntOp.cmpi .slt (x k) 32#32) = 1#1 := congrFun h k
  have h2 : (0#32).sle (x k) = true ∧ (x k).slt 32#32 = true := by
    have e : BitVec.ofBool ((0#32).sle (x k)) &&& BitVec.ofBool ((x k).slt 32#32) = 1#1 := hk
    revert e
    cases (0#32).sle (x k) <;> cases (x k).slt 32#32 <;> decide
  have h3 := h2.1
  have h4 := h2.2
  rw [BitVec.sle_eq_decide, decide_eq_true_eq] at h3
  rw [BitVec.slt_eq_decide, decide_eq_true_eq] at h4
  have e0 : (0#32).toInt = 0 := by decide
  have e32 : (32#32).toInt = 32 := by decide
  rw [e0] at h3
  rw [e32] at h4
  rw [BitVec.toInt_eq_toNat_cond] at h3 h4
  split at h3 <;> omega

/-- The groups in sixteen rows are the groups in line. -/
theorem rows_apply (x : IVec S2048 32) (k : Fin 2048) :
    grp (shapeCast S16x128 x Gen.shapeCasts_S2048_S16x128) (unflat k) = (x (Shape.Idx.ofFin k)).toNat := by
  unfold grp
  refine congrArg BitVec.toNat (shapeCast_apply x _ (ix2 (unflat k).1 (unflat k).2 : S16x128.Idx) (Shape.Idx.ofFin k : S2048.Idx) ?_)
  refine (Shape.rowMajor_val_one (d := S2048.size) _).trans (Eq.trans ?_ (Shape.rowMajor_val_two (d := S16x128.size) _).symm)
  show k.val = k.val / 128 * 128 + k.val % 128
  omega

theorem rows_lt (x : IVec S2048 32) (hx : ∀ k, (x k).toNat < 32) (q : Fin 16 × Fin 128) :
    grp (shapeCast S16x128 x Gen.shapeCasts_S2048_S16x128) q < 32 := hx _

/-- The table of addresses the gather reads stays inside the unpacked codes. -/
theorem tab_ok (c : Dev nD) (g : IVec S16x128 32) (hG : ∀ q, grp g q < 32) : TabOk (F := Ideal) c (tabOf (F := Ideal) g) := by
  intro r x
  have h : ∀ (a : Fin 16) (b : Fin 128), (tabOf (F := Ideal) g (ix2 a b) : BitVec 32).toNat + 22 ≤ 45056 := fun a b => by
    have e := congrArg BitVec.toNat (tabOf_apply g hG a b)
    have hf := flat_lt (elt g a b)
    rw [BitVec.toNat_ofNat, Nat.mod_eq_of_lt (by omega)] at e
    omega
  have hp : ∀ p : S16x128.Idx, (tabOf (F := Ideal) g p : BitVec 32).toNat + 22 ≤ 45056 := fun p =>
    (congrArg (fun q => (tabOf (F := Ideal) g q : BitVec 32).toNat + 22 ≤ 45056) (show p = ix2 (p 0) (p 1) by funext a; match a with | 0 => rfl | 1 => rfl)).mpr (h _ _)
  exact hp _

end Cert.KernelIdeal.Hand

end
-- ==== Proof.WordsKernel.lean ====
/- The packed words read at a bit: each bit of an output word is a bit of one input code, and each output byte is two codes. -/
module

public import proofs.«01_k».proof.Proof.Rounds
public import proofs.«01_k».proof.Proof.Blocks
public import proofs.«01_k».proof.Proof.GatherValue
public import Idealize.ShloMosaic.Lib.ValueIdxRank6
public import Idealize.ShloMosaic.Lib.BitcastConvert

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Code `f` of column `col`: nibble `f % 8` of the packed word at row `f / 8`. -/
def code (fq : S256x11264.Idx → BitVec 32) (f : Fin 2048) (col : Fin 11264) : BitVec 32 :=
  (fq (ValueIdx.ix2 ⟨f.val / 8, by omega⟩ col) >>> (4 * (f.val % 8))) &&& 15#32

theorem code_getLsbD (fq : S256x11264.Idx → BitVec 32) (f : Fin 2048) (col : Fin 11264) (v : ℕ) :
    (code fq f col).getLsbD v = (decide (v < 4) && (fq (ValueIdx.ix2 ⟨f.val / 8, by omega⟩ col)).getLsbD (4 * (f.val % 8) + v)) := by
  have h15 : (15#32).getLsbD v = decide (v < 4) := by
    by_cases h : v < 32
    · interval_cases v <;> rfl
    · rw [BitVec.getLsbD_of_ge _ _ (by omega)]
      exact (decide_eq_false (by omega)).symm
  rw [code, BitVec.getLsbD_and, BitVec.getLsbD_ushiftRight, h15, Bool.and_comm]

/-- The input row that belongs at sorted place `128 i + l`. -/
def place (g : IVec S16x128 32) (i : Fin 16) (l : Fin 128) : Fin 2048 := ⟨flat (elt g i l), flat_lt _⟩

/-- Two codes in one byte. -/
def pair (a b : BitVec 32) : BitVec 8 := (a ||| b <<< 4).setWidth 8

theorem pair_getLsbD (a b : BitVec 32) (v : ℕ) (hv : v < 8) : (pair a b).getLsbD v = (a.getLsbD v || (decide (4 ≤ v) && b.getLsbD (v - 4))) := by
  rw [pair, BitVec.getLsbD_setWidth, BitVec.getLsbD_or, BitVec.getLsbD_shiftLeft]
  have h1 : v < 32 := by omega
  by_cases h4 : v < 4
  · simp [hv, h1, h4, show ¬ 4 ≤ v by omega]
  · simp [hv, h1, h4, show 4 ≤ v by omega]

/-- Byte `b` of the output words of block `kb`, tile `r`, at column `col`. -/
def byteAt (fq : S256x11264.Idx → BitVec 32) (g : IVec S16x128 32) (kb r : Fin 16) (b : Fin 4) (col : Fin 11264) : BitVec 8 :=
  pair (code fq (place g kb ⟨8 * r.val + (order b 0).val, by omega⟩) col) (code fq (place g kb ⟨8 * r.val + (order b 1).val, by omega⟩) col)

theorem vec4 (fq : S256x11264.Idx → BitVec 32) (r : Fin 256) (g : Fin 22) (l : Fin 128) (i : Fin 4) :
    (![qAt fq r ⟨4 * g.val, by omega⟩ l, qAt fq r ⟨4 * g.val + 1, by omega⟩ l, qAt fq r ⟨4 * g.val + 2, by omega⟩ l,
      qAt fq r ⟨4 * g.val + 3, by omega⟩ l] : Fin 4 → BitVec 32) i = qAt fq r ⟨4 * g.val + i.val, by omega⟩ l := by
  fin_cases i <;> rfl

theorem mAt_getLsbD (fq : S256x11264.Idx → BitVec 32) (n : Fin 8) (r : Fin 256) (g : Fin 22) (l : Fin 128) (i : Fin 4) (v : ℕ) (hv : v < 4) :
    (mAt fq n r g l).getLsbD (8 * i.val + v) = (qAt fq r ⟨4 * g.val + i.val, by omega⟩ l).getLsbD (4 * n.val + v) := by
  have e : (⟨(8 * i.val + v) / 8, by omega⟩ : Fin 4) = i := Fin.ext (by show (8 * i.val + v) / 8 = i.val; omega)
  rw [mAt, splitWord_getLsbD _ _ _ _ _ _ (by omega) (by omega), e, vec4]
  congr 1
  omega

/-- The half-word row a table word points at. -/
theorem rowAt_mGoal (fq : S256x11264.Idx → BitVec 32) (f : Fin 2048) (g : Fin 22) (l : Fin 128) :
    rowAt (mGoal fq) ((f.val % 8 * 256 + f.val / 8) * 22 + g.val) l = mAt fq ⟨f.val % 8, by omega⟩ ⟨f.val / 8, by omega⟩ g l := by
  have hN : (f.val % 8 * 256 + f.val / 8) * 22 + g.val < 45056 := by omega
  rw [rowAt, dif_pos hN]
  unfold mGoal
  congr 1
  · apply Fin.ext; show ((f.val % 8 * 256 + f.val / 8) * 22 + g.val) / 22 / 256 = f.val % 8; omega
  · apply Fin.ext; show ((f.val % 8 * 256 + f.val / 8) * 22 + g.val) / 22 % 256 = f.val / 8; omega
  · apply Fin.ext; show ((f.val % 8 * 256 + f.val / 8) * 22 + g.val) % 22 = g.val; omega

theorem ix2_eq {m n : ℕ} (a : Fin m) (b : Fin n) : (ValueIdx.ix2 a b : (⟨2, ![m, n]⟩ : Shape).Idx) = Idealize.ShloMosaic.ix2 a b := by
  funext x
  match x with | 0 => rfl | 1 => rfl

theorem tabAt_toNat (g : IVec S16x128 32) (hG : ∀ q, grp g q < 32) (kb r : Fin 16) (p : Fin 8) :
    (tabAt (tabOf (F := Ideal) g) kb r p).toNat
      = ((place g kb ⟨8 * r.val + p.val, by omega⟩).val % 8 * 256 + (place g kb ⟨8 * r.val + p.val, by omega⟩).val / 8) * 22 := by
  have h := flat_lt (elt g kb ⟨8 * r.val + p.val, by omega⟩)
  rw [tabAt, ix2_eq, tabOf_apply g hG, BitVec.toNat_ofNat]
  show _ = (flat _ % 8 * 256 + flat _ / 8) * 22
  apply Nat.mod_eq_of_lt
  omega

/-- A low half-word bit is a code bit. -/
theorem half_getLsbD (fq : S256x11264.Idx → BitVec 32) (g : IVec S16x128 32) (hG : ∀ q, grp g q < 32) (kb r : Fin 16) (p : Fin 8) (gc : Fin 22)
    (i : Fin 4) (l : Fin 128) (v : ℕ) (hv : v < 4) :
    (rowAt (mGoal fq) ((tabAt (tabOf (F := Ideal) g) kb r p).toNat + gc.val) l).getLsbD (8 * i.val + v)
      = (code fq (place g kb ⟨8 * r.val + p.val, by omega⟩) ⟨128 * (4 * gc.val + i.val) + l.val, by omega⟩).getLsbD v := by
  rw [tabAt_toNat g hG, rowAt_mGoal, mAt_getLsbD _ _ _ _ _ _ _ hv, code_getLsbD, decide_eq_true hv, Bool.true_and]
  rfl

theorem code_high (fq : S256x11264.Idx → BitVec 32) (f : Fin 2048) (col : Fin 11264) (v : ℕ) (hv : 4 ≤ v) : (code fq f col).getLsbD v = false := by
  rw [code_getLsbD, decide_eq_false (by omega), Bool.false_and]

theorem vecX (fm : S45056x128.Idx → BitVec 32) (ft : S16x128.Idx → BitVec 32) (kb r : Fin 16) (g : Fin 22) (l : Fin 128) (b : Fin 4) :
    (![xAt fm ft kb r g l 0, xAt fm ft kb r g l 1, xAt fm ft kb r g l 2, xAt fm ft kb r g l 3] : Fin 4 → BitVec 32) b = xAt fm ft kb r g l b := by
  fin_cases b <;> rfl

/-- A bit of an output word is a bit of the byte it lies in. -/
theorem oAt_getLsbD (fq : S256x11264.Idx → BitVec 32) (g : IVec S16x128 32) (hG : ∀ q, grp g q < 32) (kb r : Fin 16) (gc : Fin 22)
    (i : Fin 4) (l : Fin 128) (b : Fin 4) (v : ℕ) (hv : v < 8) :
    (oAt (mGoal fq) (tabOf (F := Ideal) g) kb r gc i l).getLsbD (8 * b.val + v)
      = (byteAt fq g kb r b ⟨128 * (4 * gc.val + i.val) + l.val, by omega⟩).getLsbD v := by
  have e : (⟨(8 * b.val + v) / 8, by omega⟩ : Fin 4) = b := Fin.ext (by show (8 * b.val + v) / 8 = b.val; omega)
  have em : (8 * b.val + v) % 8 = v := by omega
  have em' : (8 * i.val + v) % 8 = v := by omega
  rw [oAt, bt_getLsbD _ _ _ _ _ _ (by omega), e, vecX, em, xAt, p4_getLsbD _ _ _ (by omega), em', byteAt, pair_getLsbD _ _ _ hv]
  by_cases h4 : v < 4
  · rw [if_pos h4, half_getLsbD fq g hG _ _ _ _ _ _ _ h4, decide_eq_false (show ¬ 4 ≤ v by omega), Bool.false_and, Bool.or_false]
  · rw [if_neg h4, show 8 * i.val + v - 4 = 8 * i.val + (v - 4) by omega, half_getLsbD fq g hG _ _ _ _ _ _ _ (by omega),
      code_high _ _ _ v (by omega), decide_eq_true (show 4 ≤ v by omega), Bool.true_and, Bool.false_or]

/-- The word at block `kb`, column block `nb`, row `w`, lane `l`. -/
theorem wGoal_apply (fm : S45056x128.Idx → BitVec 32) (ft : S16x128.Idx → BitVec 32) (kb : Fin 16) (nb : Fin 44) (w : Fin 32) (z : Fin 1) (l : Fin 128) :
    wGoal fm ft (ValueIdx.ix5 kb nb w z l) = oAt fm ft kb ⟨w.val / 2, by omega⟩ ⟨nb.val / 2, by omega⟩ ⟨2 * (nb.val % 2) + w.val % 2, by omega⟩ l := by
  refine oGoal_of fm ft _ _ _ _ _ _ ?_ rfl
  show 1452 * kb.val + 33 * nb.val + w.val = 1452 * kb.val + 33 * (2 * (nb.val / 2) + (2 * (nb.val % 2) + w.val % 2) / 2) + 2 * (w.val / 2) + (2 * (nb.val % 2) + w.val % 2) % 2
  omega

/-- Byte `b` of that word is two codes. -/
theorem word_byte (fq : S256x11264.Idx → BitVec 32) (g : IVec S16x128 32) (hG : ∀ q, grp g q < 32) (kb : Fin 16) (nb : Fin 44) (w : Fin 32) (z : Fin 1)
    (l : Fin 128) (b : Fin 4) :
    (wGoal (mGoal fq) (tabOf (F := Ideal) g) (ValueIdx.ix5 kb nb w z l)).extractLsb' (b.val * 8) 8
      = byteAt fq g kb ⟨w.val / 2, by omega⟩ b ⟨256 * nb.val + 128 * (w.val % 2) + l.val, by omega⟩ := by
  apply BitVec.eq_of_getLsbD_eq
  intro v hv
  rw [BitVec.getLsbD_extractLsb', decide_eq_true hv, Bool.true_and, Nat.mul_comm b.val 8, wGoal_apply, oAt_getLsbD fq g hG _ _ _ _ _ _ _ hv]
  congr 2
  apply Fin.ext
  show 128 * (4 * (nb.val / 2) + (2 * (nb.val % 2) + w.val % 2)) + l.val = 256 * nb.val + 128 * (w.val % 2) + l.val
  omega

/-- The words as the program returns them, byte by byte. -/
def bytes (x : S16x44x32x1x128.Idx → BitVec 32) : S16x44x4096x4.Idx → BitVec 8 :=
  shapeCast S16x44x4096x4 (Host.bitcastConvertNarrow S16x44x32x1x128x4 8 x Gen.splits_S16x44x32x1x128_w32_S16x44x32x1x128x4_w8) Gen.shapeCasts_S16x44x32x1x128x4_S16x44x4096x4

theorem bytes_apply (x : S16x44x32x1x128.Idx → BitVec 32) (kb : Fin 16) (nb : Fin 44) (r : Fin 4096) (b : Fin 4) :
    bytes x (ValueIdx.ix4 kb nb r b) = (x (ValueIdx.ix5 kb nb ⟨r.val / 128, by omega⟩ 0 ⟨r.val % 128, by omega⟩)).extractLsb' (b.val * 8) 8 := by
  unfold bytes
  rw [shapeCast_apply _ _ (ValueIdx.ix4 kb nb r b) (ValueIdx.ix6 kb nb ⟨r.val / 128, by omega⟩ 0 ⟨r.val % 128, by omega⟩ b) (by
    refine (Shape.rowMajor_val_six (d := S16x44x32x1x128x4.size) _).trans (Eq.trans ?_ (Shape.rowMajor_val_four (d := S16x44x4096x4.size) _).symm)
    show ((((kb.val * 44 + nb.val) * 32 + r.val / 128) * 1 + 0) * 128 + r.val % 128) * 4 + b.val = ((kb.val * 44 + nb.val) * 4096 + r.val) * 4 + b.val
    omega)]
  show (x _).extractLsb' _ 8 = _
  congr 2
  funext a
  match a with | 0 => rfl | 1 => rfl | 2 => rfl | 3 => rfl | 4 => rfl

/-- A byte of the kernel's first result. -/
theorem bytes_word (fq : S256x11264.Idx → BitVec 32) (g : IVec S16x128 32) (hG : ∀ q, grp g q < 32) (kb : Fin 16) (nb : Fin 44) (r : Fin 4096) (b : Fin 4) :
    bytes (wGoal (mGoal fq) (tabOf (F := Ideal) g)) (ValueIdx.ix4 kb nb r b)
      = byteAt fq g kb ⟨r.val / 256, by omega⟩ b ⟨256 * nb.val + r.val % 256, by omega⟩ := by
  rw [bytes_apply, word_byte fq g hG]
  congr 1
  · apply Fin.ext; show r.val / 128 / 2 = r.val / 256; omega
  · apply Fin.ext; show 256 * nb.val + 128 * (r.val / 128 % 2) + r.val % 128 = 256 * nb.val + r.val % 256; omega

end Cert.KernelIdeal.Hand

end
-- ==== Proof.WordsRef.lean ====
/- The reference's first result read at an index: each byte is two codes, at the columns and places of the order the index names. -/
module

public import proofs.«01_k».proof.Proof.WordsKernel
public import proofs.«01_k».proof.Proof.Gen.ReferenceIdeal
public import Idealize.ShloMosaic.Lib.Routing.Ops
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe

/-- The reference's codes: every packed word split into its eight codes. -/
def codes (q : IVec S256x11264 32) : IVec S2048x11264 32 :=
  shapeCast _ (andi (Host.shrui (broadcastInDim S256x8x11264 ![0, 1, 2] bcast_S256x1x11264_S256x8x11264_0_1_2
    (broadcastInDim S256x1x11264 ![0, 2] bcast_S256x11264_S256x1x11264_0_2 (id q)))
    (broadcastInDim S256x8x11264 ![0, 1, 2] bcast_S1x8x1_S256x8x11264_0_1_2 (broadcastInDim S1x8x1 ![1] bcast_S8_S1x8x1_1
      (muli (iotaInDim S8 32 0) (broadcastInDim S8 ![] bcast_S_S8 (constantI S_ 32 4#32))))))
    (broadcastInDim S256x8x11264 ![] bcast_S_S256x8x11264 (constantI S_ 32 15#32))) shapeCasts_S256x8x11264_S2048x11264

/-- The row numbers the reference takes rows at. -/
def rowNums (p : IVec S2048 32) : IVec S2048x1 32 :=
  broadcastInDim S2048x1 ![0] bcast_S2048_S2048x1_0 (select (cmpi .slt p (broadcastInDim S2048 ![] bcast_S_S2048 (constantI S_ 32 0#32)))
    (addi p (broadcastInDim S2048 ![] bcast_S_S2048 (constantI S_ 32 2048#32))) p)

/-- The rows in their new order. -/
def sorted (q : IVec S256x11264 32) (p : IVec S2048 32) : IVec S2048x11264 32 :=
  Host.gather gather_S2048x11264_S2048x1_S2048x11264_1_0_n_n_0_1_111264 (codes q) (rowNums p)

/-- The codes that go to the low halves of the bytes. -/
def lows (x : IVec S2048x11264 32) : IVec S16x16x2x2x44x256 32 :=
  shapeCast _ (extractStridedSlice S16x16x2x1x2x44x256 ![0, 0, 0, 0, 0, 0, 0] (shapeCast _ x shapeCasts_S2048x11264_S16x16x2x2x2x44x256)
    slices_S16x16x2x2x2x44x256_S16x16x2x1x2x44x256_0_0_0_0_0_0_0) shapeCasts_S16x16x2x1x2x44x256_S16x16x2x2x44x256

/-- The codes that go to the high halves of the bytes. -/
def highs (x : IVec S2048x11264 32) : IVec S16x16x2x2x44x256 32 :=
  shapeCast _ (extractStridedSlice S16x16x2x1x2x44x256 ![0, 0, 0, 1, 0, 0, 0] (shapeCast _ x shapeCasts_S2048x11264_S16x16x2x2x2x44x256)
    slices_S16x16x2x2x2x44x256_S16x16x2x1x2x44x256_0_0_0_1_0_0_0) shapeCasts_S16x16x2x1x2x44x256_S16x16x2x2x44x256

/-- The bytes, before they are put in their order. -/
def joined (x : IVec S2048x11264 32) : IVec S16x16x2x2x44x256 8 :=
  trunci 8 (ori (lows x) (Host.shli (highs x) (broadcastInDim S16x16x2x2x44x256 ![] bcast_S_S16x16x2x2x44x256 (constantI S_ 32 4#32)))) natLt_8_32

/-- The reference's words as bytes. -/
def words (q : IVec S256x11264 32) (p : IVec S2048 32) : IVec S16x44x4096x4 8 :=
  shapeCast _ (transpose S16x44x16x256x2x2 [0, 4, 1, 5, 3, 2] (joined (sorted q p)) transposes_S16x16x2x2x44x256_S16x44x16x256x2x2_0_4_1_5_3_2)
    shapeCasts_S16x44x16x256x2x2_S16x44x4096x4

/-- The amount a code is shifted down by. -/
theorem shift_val (k : Fin 8) : IntOp.muli (BitVec.ofNat 32 k.val) 4#32 = BitVec.ofNat 32 (4 * k.val) := by
  fin_cases k <;> rfl

theorem shift_code (w : BitVec 32) (k : Fin 8) : IntOp.shrui .host w (BitVec.ofNat 32 (4 * k.val)) = w >>> (4 * k.val) := by
  have h : (BitVec.ofNat 32 (4 * k.val)).toNat = 4 * k.val := by
    rw [BitVec.toNat_ofNat]; exact Nat.mod_eq_of_lt (by omega)
  unfold IntOp.shrui
  rw [h, if_pos (by omega), BitVec.ushiftRight_eq', h]

theorem and_shr {s : Shape} (a b c : IVec s 32) (j : s.Idx) : andi (Host.shrui a b) c j = IntOp.andi (IntOp.shrui .host (a j) (b j)) (c j) := rfl

theorem const_apply {t : Shape} (h : S_.BroadcastsInDim t ![]) (c : BitVec 32) (j : t.Idx) : broadcastInDim t ![] h (constantI S_ 32 c) j = c := rfl

theorem shifts_apply (k : Fin 8) : muli (iotaInDim S8 32 0) (broadcastInDim S8 ![] bcast_S_S8 (constantI S_ 32 4#32)) (ValueIdx.ix1 k) = BitVec.ofNat 32 (4 * k.val) := by
  rw [← shift_val]
  rfl

/-- The reference's code at a row and column. -/
theorem codes_apply (q : IVec S256x11264 32) (f : Fin 2048) (col : Fin 11264) : codes q (ValueIdx.ix2 f col) = Cert.KernelIdeal.Hand.code q f col := by
  unfold codes
  rw [shapeCast_apply _ _ (ValueIdx.ix2 f col) (ValueIdx.ix3 ⟨f.val / 8, by omega⟩ ⟨f.val % 8, by omega⟩ col) (by
    refine (Shape.rowMajor_val_three (d := S256x8x11264.size) _).trans (Eq.trans ?_ (Shape.rowMajor_val_two (d := S2048x11264.size) _).symm)
    show (f.val / 8 * 8 + f.val % 8) * 11264 + col.val = f.val * 11264 + col.val
    omega)]
  rw [and_shr, const_apply]
  rw [broadcastInDim_apply (t := S256x8x11264) ![0, 1, 2] bcast_S256x1x11264_S256x8x11264_0_1_2 _ _ (ValueIdx.ix3 ⟨f.val / 8, by omega⟩ 0 col)
      (fun a => match a with | 0 => rfl | 1 => rfl | 2 => rfl),
    broadcastInDim_apply (t := S256x1x11264) ![0, 2] bcast_S256x11264_S256x1x11264_0_2 _ _ (ValueIdx.ix2 ⟨f.val / 8, by omega⟩ col)
      (fun a => match a with | 0 => rfl | 1 => rfl),
    broadcastInDim_apply (t := S256x8x11264) ![0, 1, 2] bcast_S1x8x1_S256x8x11264_0_1_2 _ _ (ValueIdx.ix3 0 ⟨f.val % 8, by omega⟩ 0)
      (fun a => match a with | 0 => rfl | 1 => rfl | 2 => rfl),
    broadcastInDim_apply (t := S1x8x1) ![1] bcast_S8_S1x8x1_1 _ _ (ValueIdx.ix1 ⟨f.val % 8, by omega⟩) (fun a => match a with | 0 => rfl)]
  rw [shifts_apply, shift_code]
  rfl

/-- A small row number is kept. -/
theorem rowNums_apply (p : IVec S2048 32) (n : Fin 2048) (f : Fin 2048) (h : p (ValueIdx.ix1 n) = BitVec.ofNat 32 f.val) :
    rowNums p (ValueIdx.ix2 n 0) = BitVec.ofNat 32 f.val := by
  unfold rowNums
  rw [broadcastInDim_apply (t := S2048x1) ![0] bcast_S2048_S2048x1_0 _ _ (ValueIdx.ix1 n) (fun a => match a with | 0 => rfl)]
  show Scalar.select (IntOp.cmpi .slt (p (ValueIdx.ix1 n)) 0#32) _ (p (ValueIdx.ix1 n)) = _
  rw [h]
  have hs : IntOp.cmpi .slt (BitVec.ofNat 32 f.val) 0#32 = 0#1 := by
    have h0 : (BitVec.ofNat 32 f.val).slt 0#32 = false := by
      have hf := f.isLt
      have h1 : (BitVec.ofNat 32 f.val).toInt = (f.val : ℤ) := by
        rw [BitVec.toInt_eq_toNat_of_lt] <;> rw [BitVec.toNat_ofNat] <;> omega
      rw [BitVec.slt, h1]
      simp
    simp [IntOp.cmpi, h0]
  rw [hs]
  rfl

theorem sorted_apply (q : IVec S256x11264 32) (p : IVec S2048 32) (n f : Fin 2048) (col : Fin 11264) (h : p (ValueIdx.ix1 n) = BitVec.ofNat 32 f.val) :
    sorted q p (ValueIdx.ix2 n col) = Cert.KernelIdeal.Hand.code q f col := by
  rw [← codes_apply]
  exact Routing.gather_row gather_S2048x11264_S2048x1_S2048x11264_1_0_n_n_0_1_111264 rfl rfl rfl rfl rfl (codes q) (rowNums p) n col f
    (rowNums_apply p n f h) (by norm_num)

theorem lows_apply (x : IVec S2048x11264 32) (kb r : Fin 16) (a c : Fin 2) (nb : Fin 44) (col : Fin 256) :
    lows x (ValueIdx.ix6 kb r a c nb col)
      = x (ValueIdx.ix2 ⟨128 * kb.val + (8 * r.val + (4 * a.val + c.val)), by omega⟩ ⟨256 * nb.val + col.val, by omega⟩) := by
  unfold lows
  rw [shapeCast_apply _ _ (ValueIdx.ix6 kb r a c nb col) (ix7 kb r a (0 : Fin 1) c nb col) (by
    refine (rowMajor_val7 (d := S16x16x2x1x2x44x256.size) _ 720896 45056 22528 22528 11264 256 rfl rfl rfl rfl rfl rfl).trans
      (Eq.trans ?_ (Shape.rowMajor_val_six (d := S16x16x2x2x44x256.size) _).symm)
    show kb.val * 720896 + r.val * 45056 + a.val * 22528 + 0 * 22528 + c.val * 11264 + nb.val * 256 + col.val
      = ((((kb.val * 16 + r.val) * 2 + a.val) * 2 + c.val) * 44 + nb.val) * 256 + col.val
    omega)]
  rw [extractStridedSlice_apply (s := S16x16x2x2x2x44x256) (t := S16x16x2x1x2x44x256) ![0, 0, 0, 0, 0, 0, 0] _ _ (ix7 kb r a (0 : Fin 1) c nb col) (ix7 kb r a (0 : Fin 2) c nb col)
    (fun a => match a with | 0 => (Nat.zero_add _).symm | 1 => (Nat.zero_add _).symm | 2 => (Nat.zero_add _).symm | 3 => rfl | 4 => (Nat.zero_add _).symm | 5 => (Nat.zero_add _).symm | 6 => (Nat.zero_add _).symm)]
  refine shapeCast_apply _ _ _ _ ?_
  refine (Shape.rowMajor_val_two (d := S2048x11264.size) _).trans (Eq.trans ?_
    (rowMajor_val7 (d := S16x16x2x2x2x44x256.size) _ 1441792 90112 45056 22528 11264 256 rfl rfl rfl rfl rfl rfl).symm)
  show (128 * kb.val + (8 * r.val + (4 * a.val + c.val))) * 11264 + (256 * nb.val + col.val)
    = kb.val * 1441792 + r.val * 90112 + a.val * 45056 + 0 * 22528 + c.val * 11264 + nb.val * 256 + col.val
  omega

theorem highs_apply (x : IVec S2048x11264 32) (kb r : Fin 16) (a c : Fin 2) (nb : Fin 44) (col : Fin 256) :
    highs x (ValueIdx.ix6 kb r a c nb col)
      = x (ValueIdx.ix2 ⟨128 * kb.val + (8 * r.val + (4 * a.val + 2 + c.val)), by omega⟩ ⟨256 * nb.val + col.val, by omega⟩) := by
  unfold highs
  rw [shapeCast_apply _ _ (ValueIdx.ix6 kb r a c nb col) (ix7 kb r a (0 : Fin 1) c nb col) (by
    refine (rowMajor_val7 (d := S16x16x2x1x2x44x256.size) _ 720896 45056 22528 22528 11264 256 rfl rfl rfl rfl rfl rfl).trans
      (Eq.trans ?_ (Shape.rowMajor_val_six (d := S16x16x2x2x44x256.size) _).symm)
    show kb.val * 720896 + r.val * 45056 + a.val * 22528 + 0 * 22528 + c.val * 11264 + nb.val * 256 + col.val
      = ((((kb.val * 16 + r.val) * 2 + a.val) * 2 + c.val) * 44 + nb.val) * 256 + col.val
    omega)]
  rw [extractStridedSlice_apply (s := S16x16x2x2x2x44x256) (t := S16x16x2x1x2x44x256) ![0, 0, 0, 1, 0, 0, 0] _ _ (ix7 kb r a (0 : Fin 1) c nb col) (ix7 kb r a (1 : Fin 2) c nb col)
    (fun a => match a with | 0 => (Nat.zero_add _).symm | 1 => (Nat.zero_add _).symm | 2 => (Nat.zero_add _).symm | 3 => rfl | 4 => (Nat.zero_add _).symm | 5 => (Nat.zero_add _).symm | 6 => (Nat.zero_add _).symm)]
  refine shapeCast_apply _ _ _ _ ?_
  refine (Shape.rowMajor_val_two (d := S2048x11264.size) _).trans (Eq.trans ?_
    (rowMajor_val7 (d := S16x16x2x2x2x44x256.size) _ 1441792 90112 45056 22528 11264 256 rfl rfl rfl rfl rfl rfl).symm)
  show (128 * kb.val + (8 * r.val + (4 * a.val + 2 + c.val))) * 11264 + (256 * nb.val + col.val)
    = kb.val * 1441792 + r.val * 90112 + a.val * 45056 + 1 * 22528 + c.val * 11264 + nb.val * 256 + col.val
  omega

theorem joined_apply (x : IVec S2048x11264 32) (j : S16x16x2x2x44x256.Idx) : joined x j = Cert.KernelIdeal.Hand.pair (lows x j) (highs x j) := by
  show (IntOp.ori (lows x j) (IntOp.shli .host (highs x j) 4#32)).setWidth 8 = _
  have h : ∀ w : BitVec 32, IntOp.shli .host w 4#32 = w <<< 4 := fun w => by
    unfold IntOp.shli
    rw [if_pos (by decide)]
    rfl
  rw [h]
  rfl

/-- The reference's byte: two codes of two neighbouring places of the order. -/
theorem words_apply (q : IVec S256x11264 32) (p : IVec S2048 32) (pl : Fin 2048 → Fin 2048) (hp : ∀ n, p (ValueIdx.ix1 n) = BitVec.ofNat 32 (pl n).val)
    (kb : Fin 16) (nb : Fin 44) (r : Fin 4096) (b : Fin 4) :
    words q p (ValueIdx.ix4 kb nb r b) = Cert.KernelIdeal.Hand.pair
      (Cert.KernelIdeal.Hand.code q (pl ⟨128 * kb.val + (8 * (r.val / 256) + (4 * (b.val % 2) + b.val / 2)), by omega⟩) ⟨256 * nb.val + r.val % 256, by omega⟩)
      (Cert.KernelIdeal.Hand.code q (pl ⟨128 * kb.val + (8 * (r.val / 256) + (4 * (b.val % 2) + 2 + b.val / 2)), by omega⟩) ⟨256 * nb.val + r.val % 256, by omega⟩) := by
  unfold words
  rw [shapeCast_apply _ _ (ValueIdx.ix4 kb nb r b)
    (ValueIdx.ix6 kb nb ⟨r.val / 256, by omega⟩ ⟨r.val % 256, by omega⟩ ⟨b.val / 2, by omega⟩ ⟨b.val % 2, by omega⟩) (by
    refine (Shape.rowMajor_val_six (d := S16x44x16x256x2x2.size) _).trans (Eq.trans ?_ (Shape.rowMajor_val_four (d := S16x44x4096x4.size) _).symm)
    show ((((kb.val * 44 + nb.val) * 16 + r.val / 256) * 256 + r.val % 256) * 2 + b.val / 2) * 2 + b.val % 2 = ((kb.val * 44 + nb.val) * 4096 + r.val) * 4 + b.val
    omega),
    transpose_apply (s := S16x16x2x2x44x256) (t := S16x44x16x256x2x2) [0, 4, 1, 5, 3, 2] _ _ _
      (ValueIdx.ix6 kb ⟨r.val / 256, by omega⟩ ⟨b.val % 2, by omega⟩ ⟨b.val / 2, by omega⟩ nb ⟨r.val % 256, by omega⟩)
      (fun a => match a with | 0 => rfl | 1 => rfl | 2 => rfl | 3 => rfl | 4 => rfl | 5 => rfl),
    joined_apply, lows_apply, highs_apply, sorted_apply q p _ _ _ (hp _), sorted_apply q p _ _ _ (hp _)]

end Cert.ReferenceIdeal.Hand

end
-- ==== Proof.Values.lean ====
/- The two programs return the same values: the order, the scales and the packed words. -/
module

public import proofs.«01_k».proof.Proof.WordsRef
public import proofs.«01_k».proof.Proof.Groups
public import proofs.«01_k».proof.Proof.Scales

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The groups in sixteen rows. -/
def rowsOf (x : IVec S2048 32) : IVec S16x128 32 := shapeCast S16x128 x Gen.shapeCasts_S2048_S16x128

/-- The order the reference sorts the rows into. -/
def argsort (x : IVec Cert.ReferenceIdeal.S2048 32) : IVec Cert.ReferenceIdeal.S2048 32 :=
  (Host.sort2 Cert.ReferenceIdeal.S2048 0 Cert.ReferenceIdeal.comparator_i32_i32_d0 x (iotaInDim Cert.ReferenceIdeal.S2048 32 0)).2

theorem argsort_at (x : IVec S2048 32) (hx : ∀ k, (x k).toNat < 32) (n : Fin 2048) :
    argsort x (Shape.Idx.ofFin n) = BitVec.ofNat 32 (place (rowsOf x) ⟨n.val / 128, by omega⟩ ⟨n.val % 128, by omega⟩).val :=
  argsort_apply x (rowsOf x) hx (rows_apply x) n _ _ (by show n.val = 128 * (n.val / 128) + n.val % 128; omega)

theorem ofFin_eq (n : Fin 2048) : (Shape.Idx.ofFin n : S2048.Idx) = ValueIdx.ix1 n := by
  funext a
  match a with | 0 => rfl

theorem place_of (g : IVec S16x128 32) (n : ℕ) (hn : n < 2048) (i : Fin 16) (l : Fin 128) (h : n = 128 * i.val + l.val) :
    place g ⟨n / 128, by omega⟩ ⟨n % 128, by omega⟩ = place g i l := by
  congr 1
  · apply Fin.ext; show n / 128 = i.val; omega
  · apply Fin.ext; show n % 128 = l.val; omega

/-- The order agrees. -/
theorem perm_eq (x : IVec S2048 32) (hx : ∀ k, (x k).toNat < 32) :
    argsort x = shapeCast S2048 (permOf (F := Ideal) (rowsOf x)) Gen.shapeCasts_S16x128_S2048 := by
  have h : ∀ n : Fin 2048, argsort x (Shape.Idx.ofFin n) = shapeCast S2048 (permOf (F := Ideal) (rowsOf x)) Gen.shapeCasts_S16x128_S2048 (Shape.Idx.ofFin n) := fun n => by
    rw [argsort_at x hx n]
    refine (permOf_apply (rowsOf x) (rows_lt x hx) ⟨n.val / 128, by omega⟩ ⟨n.val % 128, by omega⟩).symm.trans (Eq.symm ?_)
    refine shapeCast_apply (t := S2048) _ _ _ _ ?_
    refine (Shape.rowMajor_val_two (d := S16x128.size) _).trans (Eq.trans ?_ (Shape.rowMajor_val_one (d := S2048.size) _).symm)
    show n.val / 128 * 128 + n.val % 128 = n.val
    omega
  funext j
  rw [Shape.Idx.eq_ofFin j]
  exact h _

/-- The scales agree. -/
theorem scales_eq (s : FVec Ideal S32x11264 .bf16) :
    transpose Cert.ReferenceIdeal.S44x32x256 [1, 0, 2] (shapeCast _ s Cert.ReferenceIdeal.Gen.shapeCasts_S32x11264_S32x44x256)
      Cert.ReferenceIdeal.Gen.transposes_S32x44x256_S44x32x256_1_0_2 = soGoal (F := Ideal) s := by
  have h : ∀ (a : Fin 44) (b : Fin 32) (c : Fin 256), transpose Cert.ReferenceIdeal.S44x32x256 [1, 0, 2]
      (shapeCast _ s Cert.ReferenceIdeal.Gen.shapeCasts_S32x11264_S32x44x256) Cert.ReferenceIdeal.Gen.transposes_S32x44x256_S44x32x256_1_0_2
      (ValueIdx.ix3 a b c) = s (ValueIdx.ix2 b ⟨256 * a.val + c.val, by omega⟩) := fun a b c => by
    rw [transpose_apply (s := Cert.ReferenceIdeal.S32x44x256) (t := Cert.ReferenceIdeal.S44x32x256) [1, 0, 2] _ _ _ (ValueIdx.ix3 b a c)
      (fun z => match z with | 0 => rfl | 1 => rfl | 2 => rfl)]
    refine shapeCast_apply _ _ _ _ ?_
    refine (Shape.rowMajor_val_two (d := S32x11264.size) _).trans (Eq.trans ?_ (Shape.rowMajor_val_three (d := Cert.ReferenceIdeal.S32x44x256.size) _).symm)
    show b.val * 11264 + (256 * a.val + c.val) = (b.val * 44 + a.val) * 256 + c.val
    omega
  funext j
  exact (congrArg (transpose Cert.ReferenceIdeal.S44x32x256 [1, 0, 2] (shapeCast _ s Cert.ReferenceIdeal.Gen.shapeCasts_S32x11264_S32x44x256)
    Cert.ReferenceIdeal.Gen.transposes_S32x44x256_S44x32x256_1_0_2) (ValueIdx.eq_ix3 j)).trans (h (j 0) (j 1) (j 2))

theorem byte_of (q : IVec S256x11264 32) (g : IVec S16x128 32) (pl : Fin 2048 → Fin 2048)
    (hpl : ∀ n : Fin 2048, pl n = place g ⟨n.val / 128, by omega⟩ ⟨n.val % 128, by omega⟩) (kb t : Fin 16) (b : Fin 4) (col : Fin 11264)
    (h1 : 128 * kb.val + (8 * t.val + (4 * (b.val % 2) + b.val / 2)) < 2048) (h2 : 128 * kb.val + (8 * t.val + (4 * (b.val % 2) + 2 + b.val / 2)) < 2048) :
    pair (code q (pl ⟨128 * kb.val + (8 * t.val + (4 * (b.val % 2) + b.val / 2)), h1⟩) col)
      (code q (pl ⟨128 * kb.val + (8 * t.val + (4 * (b.val % 2) + 2 + b.val / 2)), h2⟩) col) = byteAt q g kb t b col := by
  have p1 := (hpl ⟨_, h1⟩).trans (place_of g _ h1 kb ⟨8 * t.val + (order b 0).val, by omega⟩ (by
    show _ = 128 * kb.val + (8 * t.val + (4 * (b.val % 2) + 2 * 0 + b.val / 2)); omega))
  have p2 := (hpl ⟨_, h2⟩).trans (place_of g _ h2 kb ⟨8 * t.val + (order b 1).val, by omega⟩ (by
    show _ = 128 * kb.val + (8 * t.val + (4 * (b.val % 2) + 2 * 1 + b.val / 2)); omega))
  rw [p1, p2]
  rfl

/-- The words agree at each byte, whatever computed the order. -/
theorem words_at (q : IVec S256x11264 32) (g : IVec S16x128 32) (hG : ∀ p, grp g p < 32) (p : IVec S2048 32)
    (hp : ∀ n : Fin 2048, p (ValueIdx.ix1 n) = BitVec.ofNat 32 (place g ⟨n.val / 128, by omega⟩ ⟨n.val % 128, by omega⟩).val)
    (kb : Fin 16) (nb : Fin 44) (r : Fin 4096) (b : Fin 4) :
    Cert.ReferenceIdeal.Hand.words q p (ValueIdx.ix4 kb nb r b) = bytes (wGoal (mGoal q) (tabOf (F := Ideal) g)) (ValueIdx.ix4 kb nb r b) :=
  (Cert.ReferenceIdeal.Hand.words_apply q p (fun n => place g ⟨n.val / 128, by omega⟩ ⟨n.val % 128, by omega⟩) hp kb nb r b).trans
    ((byte_of q g _ (fun _ => rfl) kb ⟨r.val / 256, by omega⟩ b ⟨256 * nb.val + r.val % 256, by omega⟩ _ _).trans (bytes_word q g hG kb nb r b).symm)

theorem words_all (q : IVec S256x11264 32) (g : IVec S16x128 32) (hG : ∀ p, grp g p < 32) (p : IVec S2048 32)
    (hp : ∀ n : Fin 2048, p (ValueIdx.ix1 n) = BitVec.ofNat 32 (place g ⟨n.val / 128, by omega⟩ ⟨n.val % 128, by omega⟩).val) :
    Cert.ReferenceIdeal.Hand.words q p = bytes (wGoal (mGoal q) (tabOf (F := Ideal) g)) := by
  have h := words_at q g hG p hp
  generalize Cert.ReferenceIdeal.Hand.words q p = u at h ⊢
  generalize bytes (wGoal (mGoal q) (tabOf (F := Ideal) g)) = v at h ⊢
  funext j
  exact ((congrArg u (ValueIdx.eq_ix4 j)).trans (h (j 0) (j 1) (j 2) (j 3))).trans (congrArg v (ValueIdx.eq_ix4 j)).symm

/-- The packed words agree, byte by byte. -/
theorem words_eq (q : IVec S256x11264 32) (x : IVec S2048 32) (hx : ∀ k, (x k).toNat < 32) :
    Cert.ReferenceIdeal.Hand.words q (argsort x) = bytes (wGoal (mGoal q) (tabOf (F := Ideal) (rowsOf x))) :=
  words_all q (rowsOf x) (rows_lt x hx) (argsort x) (fun n => (congrArg (argsort x) (ofFin_eq n).symm).trans (argsort_at x hx n))

end Cert.KernelIdeal.Hand

end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_groups_valid
public import proofs.«01_k».proof.Proof.Groups
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- The table the kernel sorts by is in range, on every device, when the groups are. -/
theorem table_ok (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Hand.TabOk (F := Ideal) c (Cert.KernelIdeal.Hand.tabOf (F := Ideal) (Cert.KernelIdeal.Gen.V m c Cert.KernelIdeal.main_v0)) := by
  rw [Cert.KernelIdeal.Hand.V_groups m c]
  exact Cert.KernelIdeal.Hand.tab_ok c _ (Cert.KernelIdeal.Hand.rows_lt _ (Cert.KernelIdeal.Hand.groups_lt _ _ _ (hpre c)))

/-- The kernel's frame: it runs, leaves its arguments and every counter as found. -/
theorem frame_k : Cert.quiescent_KernelIdeal := fun m ρ hpre =>
  (θ_run Cert.KernelIdeal.defs _ _).mono (fun _ h => ⟨fun c => (h.1 c).2, h.2⟩)
    (Cert.KernelIdeal.Hand.run_kernel m ρ (table_ok m hpre))

/-- The reference's frame, whatever its arguments hold. -/
theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same under the precondition of the other claims. -/
theorem frame_r_groups : Cert.quiescent_ReferenceIdeal_pre_groups_valid := fun m ρ _ => frame_r m ρ trivial

/-- What the kernel and the reference both leave in the first result. -/
def outW (m : (ℓ : Loc Cert.KernelIdeal.nD Cert.KernelIdeal.τ Cert.KernelIdeal.sig) → Buf (Elt Ideal) ℓ) (c : Dev Cert.KernelIdeal.nD) : IVec Cert.KernelIdeal.S16x44x4096x4 8 :=
  Cert.KernelIdeal.Hand.bytes (Cert.KernelIdeal.Hand.wGoal (Cert.KernelIdeal.Hand.mGoal (m ((c.tc : Thread Cert.KernelIdeal.nD Cert.KernelIdeal.τ).loc Cert.KernelIdeal.main_arg0)))
    (Cert.KernelIdeal.Hand.tabOf (F := Ideal) (Cert.KernelIdeal.Hand.rowsOf (m ((c.tc : Thread Cert.KernelIdeal.nD Cert.KernelIdeal.τ).loc Cert.KernelIdeal.main_arg2)))))

/-- What both leave in the second result. -/
def outS (m : (ℓ : Loc Cert.KernelIdeal.nD Cert.KernelIdeal.τ Cert.KernelIdeal.sig) → Buf (Elt Ideal) ℓ) (c : Dev Cert.KernelIdeal.nD) : FVec Ideal Cert.KernelIdeal.S44x32x256 .bf16 :=
  Cert.KernelIdeal.Hand.soGoal (F := Ideal) (m ((c.tc : Thread Cert.KernelIdeal.nD Cert.KernelIdeal.τ).loc Cert.KernelIdeal.main_arg1))

/-- What both leave in the third result. -/
def outP (m : (ℓ : Loc Cert.KernelIdeal.nD Cert.KernelIdeal.τ Cert.KernelIdeal.sig) → Buf (Elt Ideal) ℓ) (c : Dev Cert.KernelIdeal.nD) : IVec Cert.KernelIdeal.S2048 32 :=
  shapeCast Cert.KernelIdeal.S2048 (Cert.KernelIdeal.Hand.permOf (F := Ideal)
    (Cert.KernelIdeal.Hand.rowsOf (m ((c.tc : Thread Cert.KernelIdeal.nD Cert.KernelIdeal.τ).loc Cert.KernelIdeal.main_arg2)))) Cert.KernelIdeal.Gen.shapeCasts_S16x128_S2048

theorem res_words (m : (ℓ : Loc Cert.KernelIdeal.nD Cert.KernelIdeal.τ Cert.KernelIdeal.sig) → Buf (Elt Ideal) ℓ) (c : Dev Cert.KernelIdeal.nD) :
    shapeCast Cert.KernelIdeal.S16x44x4096x4 (Host.bitcastConvertNarrow Cert.KernelIdeal.S16x44x32x1x128x4 8 (Cert.KernelIdeal.Hand.resW (F := Ideal) m c)
      Cert.KernelIdeal.Gen.splits_S16x44x32x1x128_w32_S16x44x32x1x128x4_w8) Cert.KernelIdeal.Gen.shapeCasts_S16x44x32x1x128x4_S16x44x4096x4 = outW m c := by
  unfold Cert.KernelIdeal.Hand.resW
  rw [Cert.KernelIdeal.Hand.V_groups m c, Cert.KernelIdeal.Gen.V_main_arg0 m c]
  rfl

theorem res_scales (m : (ℓ : Loc Cert.KernelIdeal.nD Cert.KernelIdeal.τ Cert.KernelIdeal.sig) → Buf (Elt Ideal) ℓ) (c : Dev Cert.KernelIdeal.nD) :
    Cert.KernelIdeal.Hand.resS (F := Ideal) m c = outS m c := by
  unfold Cert.KernelIdeal.Hand.resS
  rw [Cert.KernelIdeal.Gen.V_main_arg1 m c]
  rfl

theorem res_perm (m : (ℓ : Loc Cert.KernelIdeal.nD Cert.KernelIdeal.τ Cert.KernelIdeal.sig) → Buf (Elt Ideal) ℓ) (c : Dev Cert.KernelIdeal.nD) :
    shapeCast Cert.KernelIdeal.S2048 (Cert.KernelIdeal.Hand.resP (F := Ideal) m c) Cert.KernelIdeal.Gen.shapeCasts_S16x128_S2048 = outP m c := by
  unfold Cert.KernelIdeal.Hand.resP
  rw [Cert.KernelIdeal.Hand.V_groups m c]
  rfl

/-- The kernel and the reference, from the same arguments, end with the same three results. -/
theorem alg : Cert.algebraic_KernelIdeal_ReferenceIdeal := by
  intro m g m' g' hpre hm
  refine ⟨fun c => outW m c, fun c => outS m c, fun c => outP m c, ?_, ?_⟩
  · refine (θ_run Cert.KernelIdeal.defs _ _).mono (fun r h c => ?_) (Cert.KernelIdeal.Hand.run_kernel m g (table_ok m hpre))
    obtain ⟨⟨h1, h2, h3⟩, h4⟩ := h.1 c
    exact ⟨h1.trans (res_words m c), h2.trans (res_scales m c), h3.trans (res_perm m c), h4⟩
  · refine (θ_run Cert.ReferenceIdeal.defs _ _).mono (fun r h c => ?_) (Cert.ReferenceIdeal.Value.run (F := Ideal) m' g')
    obtain ⟨h1, h2, h3, h4⟩ := h c
    obtain ⟨e0, e1, e2⟩ := hm c
    have hx := Cert.KernelIdeal.Hand.groups_lt _ _ _ (hpre c)
    refine ⟨h1.trans ?_, h2.trans ?_, h3.trans ?_, h4⟩
    · rw [e0, e2]
      exact Cert.KernelIdeal.Hand.words_eq _ _ hx
    · rw [e1]
      exact Cert.KernelIdeal.Hand.scales_eq _
    · rw [e2]
      exact Cert.KernelIdeal.Hand.perm_eq _ hx

theorem claim : Cert.Claim := ⟨Cert.KernelIdeal.Gen.facts, Cert.ReferenceIdeal.Gen.facts, Cert.Pre_groups_valid.Gen.facts, frame_k, frame_r, frame_r_groups, alg⟩

end Cert.Proof

end
